-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)
      ∧ m ((c.tc : Thread Cert.KernelIdeal.nD Cert.KernelIdeal.τ).loc Cert.KernelIdeal.main_arg2) = m' (((0 : Dev Cert.SiluIdeal.nD).tc : Thread Cert.SiluIdeal.nD Cert.SiluIdeal.τ).loc Cert.SiluIdeal.main_arg2)
      ∧ m ((c.tc : Thread Cert.KernelIdeal.nD Cert.KernelIdeal.τ).loc Cert.KernelIdeal.main_arg3) = m' (((0 : Dev Cert.SiluIdeal.nD).tc : Thread Cert.SiluIdeal.nD Cert.SiluIdeal.τ).loc Cert.SiluIdeal.main_arg3)) →
    ∃ (v0 : Buf (Elt Ideal) (((0 : Dev Cert.SiluIdeal.nD).tc : Thread Cert.SiluIdeal.nD Cert.SiluIdeal.τ).loc Cert.SiluIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v9) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1)
          ∧ r.2.mem (((0 : Dev Cert.SiluIdeal.nD).tc : Thread Cert.SiluIdeal.nD Cert.SiluIdeal.τ).loc Cert.SiluIdeal.main_arg2) = m' (((0 : Dev Cert.SiluIdeal.nD).tc : Thread Cert.SiluIdeal.nD Cert.SiluIdeal.τ).loc Cert.SiluIdeal.main_arg2)
          ∧ r.2.mem (((0 : Dev Cert.SiluIdeal.nD).tc : Thread Cert.SiluIdeal.nD Cert.SiluIdeal.τ).loc Cert.SiluIdeal.main_arg3) = m' (((0 : Dev Cert.SiluIdeal.nD).tc : Thread Cert.SiluIdeal.nD Cert.SiluIdeal.τ).loc Cert.SiluIdeal.main_arg3))

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hSiluIdeal : Cert.SiluIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S1024x4096 : Shape := ⟨2, ![1024, 4096]⟩
abbrev S4096x2048 : Shape := ⟨2, ![4096, 2048]⟩
abbrev S1 : Shape := ⟨1, ![1]⟩
abbrev S1024x2048 : Shape := ⟨2, ![1024, 2048]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S1024x2048_0_1 : S1x1.BroadcastsInDim S1024x2048 (![0, 1] : Fin 2 → Fin S1024x2048.rank)
  bcast_S_S1024x2048 : S_.BroadcastsInDim S1024x2048 (![] : Fin 0 → Fin S1024x2048.rank)
  dot_S1024x4096_S4096x2048_S1024x2048_1_0_0_1_n_n_wf : DotDims.WF S1024x4096 S4096x2048 S1024x2048 [1] [0] [0] [1] [] []

variable [Facts]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def fn {F : FTy → Type} [FloatOps F] (main_arg0 : FVec F S1024x4096 .f32) (main_arg1 : FVec F S4096x2048 .f32) (main_arg2 : FVec F S1 .f32) (main_arg3 : FVec F S1 .f32) : IVec S1024x2048 1 :=
  let main_v0 : FVec F S1024x2048 .f32 := (fun l r => Host.dotGeneral dot_S1024x4096_S4096x2048_S1024x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S1024x2048 .f32 := broadcastInDim S1024x2048 ![0, 1] bcast_S1x1_S1024x2048_0_1 main_v2
  let main_v4 : FVec F S1024x2048 .f32 := mulf main_v0 main_v3
  let main_cst : FVec F S_ .f32 := constant S_ .f32 0xC2700000#32
  let main_v5 : FVec F S1024x2048 .f32 := broadcastInDim S1024x2048 ![] bcast_S_S1024x2048 main_cst
  let main_v6 : IVec S1024x2048 1 := cmpf .oge main_v4 main_v5
  let main_cst_0 : FVec F S_ .f32 := constant S_ .f32 0x42700000#32
  let main_v7 : FVec F S1024x2048 .f32 := broadcastInDim S1024x2048 ![] bcast_S_S1024x2048 main_cst_0
  let main_v8 : IVec S1024x2048 1 := cmpf .ole main_v4 main_v7
  let main_v9 : IVec S1024x2048 1 := andi main_v6 main_v8
  main_v9
-- ==== Pre_in_range_ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  main_v9
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S2x4096x128 : Shape := ⟨3, ![2, 4096, 128]⟩
abbrev S3x1024x512 : Shape := ⟨3, ![3, 1024, 512]⟩
abbrev S2 : Shape := ⟨1, ![2]⟩
abbrev S3 : Shape := ⟨1, ![3]⟩
abbrev S_ : Shape := ⟨0, ![]⟩
abbrev S1x4096x128 : Shape := ⟨3, ![1, 4096, 128]⟩
abbrev S4096x128 : Shape := ⟨2, ![4096, 128]⟩
abbrev S1024x128 : Shape := ⟨2, ![1024, 128]⟩
abbrev S1x1024x128 : Shape := ⟨3, ![1, 1024, 128]⟩
abbrev S1x1024x512 : Shape := ⟨3, ![1, 1024, 512]⟩
abbrev S1024x512 : Shape := ⟨2, ![1024, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S1024x4096, .fp8e4m3⟩
  | .local _ .vmem, ⟨3, _⟩ => ⟨S2x4096x128, .f32⟩
  | .local _ .vmem, ⟨4, _⟩ => ⟨S2x4096x128, .fp8e4m3⟩
  | .local _ .vmem, ⟨5, _⟩ => ⟨S3x1024x512, .bf16⟩
  | .local _ .vmem, ⟨6, _⟩ => ⟨S3x1024x512, .bf16⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_34 : BitVec 32) (c0_i32_41 : BitVec 32) : Fin 2 → Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v52 : BitVec 32 := Scalar.addi v2 c1_i32_33
  let v53 : BitVec 32 := Scalar.addi v52 c0_i32_34
  let c4_i32_35 : BitVec 32 := 4#32
  let c0_i32_36 : BitVec 32 := 0#32
  let v54 : BitVec 1 := Scalar.cmpi .eq c4_i32_35 c0_i32_36
  let c1_i32_37 : BitVec 32 := 1#32
  let v55 : BitVec 32 := Scalar.select v54 c1_i32_37 c4_i32_35
  let v56 : BitVec 32 := Scalar.remsi v53 v55
  let c0_i32_39 : BitVec 32 := 0#32
  let v58 : BitVec 1 := Scalar.cmpi .slt v56 c0_i32_39
  let c0_i32_40 : BitVec 32 := 0#32
  let v59 : BitVec 1 := Scalar.cmpi .slt v55 c0_i32_40
  let v60 : BitVec 1 := Scalar.xori v58 v59
  let c0_i32_38 : BitVec 32 := 0#32
  let v57 : BitVec 1 := Scalar.cmpi .ne v56 c0_i32_38
  let v61 : BitVec 1 := Scalar.andi v60 v57
  let v62 : BitVec 32 := Scalar.addi v56 v55
  let v63 : BitVec 32 := Scalar.select v61 v62 v56
  let c512_i32 : BitVec 32 := 512#32
  let v64 : BitVec 32 := Scalar.muli v63 c512_i32
  let v65 : BitVec 32 := Scalar.addi v64 c0_i32_41
  ![0, v65.toNat]
def k0_dev4 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_179 : BitVec 32 := 1#32
  let v239 : BitVec 32 := Scalar.addi v2 c1_i32_179
  let c4_i32_180 : BitVec 32 := 4#32
  let c0_i32_181 : BitVec 32 := 0#32
  let v240 : BitVec 1 := Scalar.cmpi .eq c4_i32_180 c0_i32_181
  let c1_i32_182 : BitVec 32 := 1#32
  let v241 : BitVec 32 := Scalar.select v240 c1_i32_182 c4_i32_180
  let v242 : BitVec 32 := Scalar.remsi v239 v241
  let c0_i32_184 : BitVec 32 := 0#32
  let v244 : BitVec 1 := Scalar.cmpi .slt v242 c0_i32_184
  let c0_i32_185 : BitVec 32 := 0#32
  let v245 : BitVec 1 := Scalar.cmpi .slt v241 c0_i32_185
  let v246 : BitVec 1 := Scalar.xori v244 v245
  let c0_i32_183 : BitVec 32 := 0#32
  let v243 : BitVec 1 := Scalar.cmpi .ne v242 c0_i32_183
  let v247 : BitVec 1 := Scalar.andi v246 v243
  let v248 : BitVec 32 := Scalar.addi v242 v241
  let v249 : BitVec 32 := Scalar.select v247 v248 v242
  let c1_i32_190 : BitVec 32 := 1#32
  let v250 : BitVec 32 := Scalar.muli v249 c1_i32_190
  let v251 : BitVec 32 := Scalar.addi c0_i32_191 v250
  v251.toNat
def k0_dev5 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_336 : BitVec 32 := 2#32
  let v428 : BitVec 32 := Scalar.addi v2 c2_i32_336
  let c4_i32_337 : BitVec 32 := 4#32
  let c0_i32_338 : BitVec 32 := 0#32
  let v429 : BitVec 1 := Scalar.cmpi .eq c4_i32_337 c0_i32_338
  let c1_i32_339 : BitVec 32 := 1#32
  let v430 : BitVec 32 := Scalar.select v429 c1_i32_339 c4_i32_337
  let v431 : BitVec 32 := Scalar.remsi v428 v430
  let c0_i32_341 : BitVec 32 := 0#32
  let v433 : BitVec 1 := Scalar.cmpi .slt v431 c0_i32_341
  let c0_i32_342 : BitVec 32 := 0#32
  let v434 : BitVec 1 := Scalar.cmpi .slt v430 c0_i32_342
  let v435 : BitVec 1 := Scalar.xori v433 v434
  let c0_i32_340 : BitVec 32 := 0#32
  let v432 : BitVec 1 := Scalar.cmpi .ne v431 c0_i32_340
  let v436 : BitVec 1 := Scalar.andi v435 v432
  let v437 : BitVec 32 := Scalar.addi v431 v430
  let v438 : BitVec 32 := Scalar.select v436 v437 v431
  let c1_i32_347 : BitVec 32 := 1#32
  let v439 : BitVec 32 := Scalar.muli v438 c1_i32_347
  let v440 : BitVec 32 := Scalar.addi c0_i32_348 v439
  v440.toNat
def k0_off2 (d0 : Dev nD) (c0_i32_458 : BitVec 32) : Fin 2 → Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_457 : BitVec 32 := 512#32
  let v575 : BitVec 32 := Scalar.muli v2 c512_i32_457
  let v576 : BitVec 32 := Scalar.addi v575 c0_i32_458
  ![0, v576.toNat]
def k0_dev6 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_484 : BitVec 32 := 3#32
  let v605 : BitVec 32 := Scalar.addi v2 c3_i32_484
  let c4_i32_485 : BitVec 32 := 4#32
  let c0_i32_486 : BitVec 32 := 0#32
  let v606 : BitVec 1 := Scalar.cmpi .eq c4_i32_485 c0_i32_486
  let c1_i32_487 : BitVec 32 := 1#32
  let v607 : BitVec 32 := Scalar.select v606 c1_i32_487 c4_i32_485
  let v608 : BitVec 32 := Scalar.remsi v605 v607
  let c0_i32_489 : BitVec 32 := 0#32
  let v610 : BitVec 1 := Scalar.cmpi .slt v608 c0_i32_489
  let c0_i32_490 : BitVec 32 := 0#32
  let v611 : BitVec 1 := Scalar.cmpi .slt v607 c0_i32_490
  let v612 : BitVec 1 := Scalar.xori v610 v611
  let c0_i32_488 : BitVec 32 := 0#32
  let v609 : BitVec 1 := Scalar.cmpi .ne v608 c0_i32_488
  let v613 : BitVec 1 := Scalar.andi v612 v609
  let v614 : BitVec 32 := Scalar.addi v608 v607
  let v615 : BitVec 32 := Scalar.select v613 v614 v608
  let c1_i32_495 : BitVec 32 := 1#32
  let v616 : BitVec 32 := Scalar.muli v615 c1_i32_495
  let v617 : BitVec 32 := Scalar.addi c0_i32_496 v616
  v617.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v652 : BitVec 32 := Scalar.muli v2 c1024_i32
  let v653 : Index := Scalar.indexCast v652
  let c0_525 : Index := 0#32
  ![v653.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_550 : BitVec 32 := 1024#32
  let v681 : BitVec 32 := Scalar.muli v2 c1024_i32_550
  let v682 : Index := Scalar.indexCast v681
  let c128_551 : Index := 128#32
  ![v682.toNat, 128]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_576 : BitVec 32 := 1024#32
  let v710 : BitVec 32 := Scalar.muli v2 c1024_i32_576
  let v711 : Index := Scalar.indexCast v710
  let c256_577 : Index := 256#32
  ![v711.toNat, 256]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_595 : BitVec 32 := 1024#32
  let v732 : BitVec 32 := Scalar.muli v2 c1024_i32_595
  let v733 : Index := Scalar.indexCast v732
  let c384_596 : Index := 384#32
  ![v733.toNat, 384]
def k0_off7 (d0 : Dev nD) (c3_i32_597 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v735 : BitVec 32 := Scalar.addi v2 c3_i32_597
  let c4_i32_598 : BitVec 32 := 4#32
  let c0_i32_599 : BitVec 32 := 0#32
  let v736 : BitVec 1 := Scalar.cmpi .eq c4_i32_598 c0_i32_599
  let c1_i32_600 : BitVec 32 := 1#32
  let v737 : BitVec 32 := Scalar.select v736 c1_i32_600 c4_i32_598
  let v738 : BitVec 32 := Scalar.remsi v735 v737
  let c0_i32_602 : BitVec 32 := 0#32
  let v740 : BitVec 1 := Scalar.cmpi .slt v738 c0_i32_602
  let c0_i32_603 : BitVec 32 := 0#32
  let v741 : BitVec 1 := Scalar.cmpi .slt v737 c0_i32_603
  let v742 : BitVec 1 := Scalar.xori v740 v741
  let c0_i32_601 : BitVec 32 := 0#32
  let v739 : BitVec 1 := Scalar.cmpi .ne v738 c0_i32_601
  let v743 : BitVec 1 := Scalar.andi v742 v739
  let v744 : BitVec 32 := Scalar.addi v738 v737
  let v745 : BitVec 32 := Scalar.select v743 v744 v738
  let c1024_i32_617 : BitVec 32 := 1024#32
  let v757 : BitVec 32 := Scalar.muli v745 c1024_i32_617
  let v758 : Index := Scalar.indexCast v757
  let c0_618 : Index := 0#32
  ![v758.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Common.lean ====
/-
# `Common`: the protocol of the four devices

The semaphore cells every device shares with the others (its barrier cell, its three send cells and its three receive
cells), who pays what at each of them and what comes with the payment, in the rounds library's terms (`Lib/Rounds.lean`),
and what every device owes at the start. Everything is stated over any float values `F`.

Device `c` computes block `b` of its columns for `b = 0, 1, 2` and copies it to device `peer c b`, into slab `2 - b` of
that device's landing buffer; so slab `j` of `c`'s landing buffer is filled by `peer c j`, whose `peer` at `2 - j` is `c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's, and the counters of the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ## The devices -/

set_option backward.proofsInPublic true in
/-- The device `j + 1` places after `c`. -/
def peer (c : Dev nD) (j : Fin 3) : Dev nD := ⟨(c.val + j.val + 1) % 4, Nat.mod_lt _ (by decide)⟩

theorem peer_peer (c : Dev nD) (j : Fin 3) : peer (peer c j) (Fin.rev j) = c := by revert c j; decide
theorem peer_peer' (c : Dev nD) (j : Fin 3) : peer (peer c (Fin.rev j)) j = c := by revert c j; decide
theorem peer_ne (c : Dev nD) (j : Fin 3) : peer c j ≠ c := by revert c j; decide
theorem peer_inj {c d : Dev nD} {j : Fin 3} (h : peer c j = peer d j) : c = d := by revert c d j; decide

def around (j : Fin 3) : Dev nD ≃ Dev nD := ⟨fun c => peer c j, fun c => peer c (Fin.rev j), fun c => peer_peer c j, fun c => peer_peer' c j⟩

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel

/-! ## The memrefs and cells -/

abbrev sxM : Memref sig .tc .smem S1 .f32 := Memref.whole cc0_stg0_0
abbrev swM : Memref sig .tc .smem S1 .f32 := Memref.whole cc0_stg1_0
abbrev xM : Memref sig .tc .vmem S1024x4096 .f32 := Memref.whole cc0_stg2_0
abbrev wM : Memref sig .tc .hbm S4096x2048 .f32 := Memref.whole main_arg1
abbrev oM : Memref sig .tc .vmem S4096x512 .f32 := Memref.whole cc0_stg3_0
abbrev x8M : Memref sig .tc .vmem S1024x4096 .fp8e4m3 := Memref.whole cc0_scratch0
abbrev wfM : Memref sig .tc .vmem S2x4096x128 .f32 := Memref.whole cc0_scratch1
abbrev w8M : Memref sig .tc .vmem S2x4096x128 .fp8e4m3 := Memref.whole cc0_scratch2
abbrev yM : Memref sig .tc .vmem S3x1024x512 .bf16 := Memref.whole cc0_scratch3
abbrev rM : Memref sig .tc .vmem S3x1024x512 .bf16 := Memref.whole cc0_scratch4

theorem inb_slab (j : Fin 3) : ∀ a, (![j.val, 0, 0] : Fin 3 → Nat) a + S1x1024x512.size a ≤ S3x1024x512.size a := by revert j; decide
theorem inb_wslot (j : Fin 2) : ∀ a, (![j.val, 0, 0] : Fin 3 → Nat) a + S1x4096x128.size a ≤ S2x4096x128.size a := by revert j; decide

/-- Slab `j` of a three-slab buffer. -/
abbrev slabOf (M : Memref sig .tc .vmem S3x1024x512 .bf16) (j : Fin 3) : Memref sig .tc .vmem S1024x512 .bf16 :=
  (M.slice (Rect.unit (s := S3x1024x512) ![j.val, 0, 0] S1x1024x512.size (inb_slab j)) (fun _ => rfl)).squeeze S1024x512 squeezes_S1x1024x512_S1024x512
/-- Slot `j` of the buffer the local copies of the matrix land in. -/
abbrev wslot (j : Fin 2) : Memref sig .tc .vmem S4096x128 .f32 :=
  (wfM.slice (Rect.unit (s := S2x4096x128) ![j.val, 0, 0] S1x4096x128.size (inb_wslot j)) (fun _ => rfl)).squeeze S4096x128 squeezes_S1x4096x128_S4096x128

/-- The barrier semaphore (unscoped), the three send and the three receive DMA semaphores, the two of the local copies. -/
abbrev barS : Sem sig := (SemArray.scalar (sig.barrier 0 rfl) : Sems sig S_).sem
abbrev sendS : Fin 3 → DmaSem sig := fun | 0 => 6 | 1 => 7 | 2 => 8
abbrev recvS : Fin 3 → DmaSem sig := fun | 0 => 9 | 1 => 10 | 2 => 11

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))
abbrev wCell (c : Dev nD) (q : DmaSem sig) : GSem nD τ sig := ((c : Thread nD τ), .dma q)

/-- The kernel's own (scoped) semaphores, as the launch theorem indexes them; -/
abbrev osem : Fin 8 → SemLoc sig := fun | 0 => .dma 4 | 1 => .dma 5 | 2 => .dma 6 | 3 => .dma 7 | 4 => .dma 8 | 5 => .dma 9 | 6 => .dma 10 | 7 => .dma 11
/-- the seven of the protocol: barrier, send, receive. -/
abbrev csem : Fin 7 → SemLoc sig := fun | 0 => .reg barS | 1 => .dma 6 | 2 => .dma 7 | 3 => .dma 8 | 4 => .dma 9 | 5 => .dma 10 | 6 => .dma 11
abbrev kcell (ck : Dev nD × Fin 7) : GSem nD τ sig := ((ck.1 : Thread nD τ), csem ck.2)
/-- Their places in `csem`. -/
abbrev sk : Fin 3 → Fin 7 := fun | 0 => 1 | 1 => 2 | 2 => 3
abbrev rk : Fin 3 → Fin 7 := fun | 0 => 4 | 1 => 5 | 2 => 6
theorem kcell_send (c : Dev nD) (j : Fin 3) : kcell (c, sk j) = sendCell c j := by fin_cases j <;> rfl
theorem kcell_recv (c : Dev nD) (j : Fin 3) : kcell (c, rk j) = recvCell c j := by fin_cases j <;> rfl

/-- A slab's credit. -/
abbrev N : ℕ := (slabOf rM 0).view.dmaCredit
theorem N_pos : 0 < N := View.dmaCredit_pos _ (by decide)

/-! ## The slabs' points-tos -/

abbrev SlabBuf (c : Dev nD) (M : Memref sig .tc .vmem S3x1024x512 .bf16) (j : Fin 3) : Type := Buf (Elt F) ((slabOf M j).view.loc (c : Thread nD τ))

def yPts (c : Dev nD) (j : Fin 3) (f : SlabBuf (F := F) c yM j) : sProp 𝕄 :=
  (slabOf yM j).view.loc (c : Thread nD τ) ↦[(slabOf yM j).view.set]{fullShare} f
def rPts (c : Dev nD) (j : Fin 3) (f : SlabBuf (F := F) c rM j) : sProp 𝕄 :=
  (slabOf rM j).view.loc (c : Thread nD τ) ↦[(slabOf rM j).view.set]{fullShare} f

omit [FloatOps F] in
instance yPts_storable (c : Dev nD) (j) (f) : BI.Storable (upEmb : UEmb _ 𝕄) (yPts (F := F) c j f) := by unfold yPts; infer_instance
omit [FloatOps F] in
instance rPts_storable (c : Dev nD) (j) (f) : BI.Storable (upEmb : UEmb _ 𝕄) (rPts (F := F) c j f) := by unfold rPts; infer_instance

/-! ## The schedule -/

/-- What the blocks hold: `Y c b` is block `b` of device `c`'s columns, as a function of the slab's indices. -/
abbrev Blocks : Type := Dev nD → Fin 3 → S1024x512.Idx → Elt F .bf16

section Sched
variable (Y : Blocks (F := F))

/-- Duty `j` of `c`'s barrier cell is paid by `peer c (2 - j)`, the device `c` sends its block `2 - j` to: slab `j` of
    that device's landing buffer, and that it has reached round 0 of that slab's receive cell. -/
def barPay (c : Dev nD) (j : Fin 3) : sProp 𝕄 :=
  iprop((∃ f, rPts (peer c (Fin.rev j)) j f) ∗ reached ER (recvCell (peer c (Fin.rev j)) j) 0)
/-- Slab `j` of the landing buffer, holding block `2 - j` of `peer c j`'s columns. -/
def recvPay (c : Dev nD) (j : Fin 3) : sProp 𝕄 :=
  iprop(∃ f, rPts c j f ∗ ⌜(slabOf rM j).view.read (Elt F) f = Y (peer c j) (Fin.rev j)⌝)
def sendPay (c : Dev nD) (b : Fin 3) : sProp 𝕄 := iprop(∃ f, yPts (F := F) c b f)

abbrev IsBar (g : GSem nD τ sig) : Prop := g.1.2 = .tc ∧ g.2 = .reg barS
abbrev IsXfer (g : GSem nD τ sig) : Prop := g.1.2 = .tc ∧ ∃ j, (g.2 = .dma (sendS j) ∨ g.2 = .dma (recvS j))

/-- One round, round 0: a barrier cell has the three duties of one unit each; a send or receive cell the duty `0` of a
    slab's credit. -/
def rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay Y g.1.1 0
    else if g.2 = .dma (recvS 1) then recvPay Y g.1.1 1
    else if g.2 = .dma (recvS 2) then recvPay Y g.1.1 2
    else if g.2 = .dma (sendS 0) then sendPay g.1.1 0
    else if g.2 = .dma (sendS 1) then sendPay g.1.1 1
    else if g.2 = .dma (sendS 2) then sendPay g.1.1 2
    else iprop(emp)
  amount_pos g _ _ _ := by
    by_cases h : g.2 = .reg barS
    · rw [if_pos h]; exact Nat.one_pos
    · rw [if_neg h]; exact N_pos

omit [FloatOps F] in
instance rd_payload_storable (g : GSem nD τ sig) (r : ℕ) (d : Fin 3) :
    BI.Storable (upEmb : UEmb _ 𝕄) ((rd (F := F) Y).payload g r d) := by
  dsimp only [rd]
  unfold barPay recvPay sendPay
  (repeat' split) <;> infer_instance

theorem send_ne_bar (j : Fin 3) : (SemLoc.dma (sendS j) : SemLoc sig) ≠ .reg barS := fun h => by cases h
theorem recv_ne_bar (j : Fin 3) : (SemLoc.dma (recvS j) : SemLoc sig) ≠ .reg barS := fun h => by cases h
theorem send_ne_recv (j k : Fin 3) : (SemLoc.dma (sendS j) : SemLoc sig) ≠ .dma (recvS k) := by revert j k; decide
theorem recv_inj {j k : Fin 3} (h : (SemLoc.dma (recvS j) : SemLoc sig) = .dma (recvS k)) : j = k := by revert j k; decide

variable (c : Dev nD) (j : Fin 3)

omit [FloatOps F] in
theorem duties_bar : (rd (F := F) Y).duties (barCell c) 0 = Finset.univ := by dsimp only [rd]; exact if_pos ⟨rfl, rfl, rfl⟩
omit [FloatOps F] in
theorem duties_send : (rd (F := F) Y).duties (sendCell c j) 0 = {0} := by
  dsimp only [rd]; rw [if_neg (fun h => send_ne_bar j h.2.2)]; exact if_pos ⟨rfl, rfl, j, .inl rfl⟩
omit [FloatOps F] in
theorem duties_recv : (rd (F := F) Y).duties (recvCell c j) 0 = {0} := by
  dsimp only [rd]; rw [if_neg (fun h => recv_ne_bar j h.2.2)]; exact if_pos ⟨rfl, rfl, j, .inr rfl⟩
omit [FloatOps F] in
theorem duties_later (g : GSem nD τ sig) : ∀ r, 1 ≤ r → (rd (F := F) Y).duties g r = ∅ :=
  fun r hr => by dsimp only [rd]; rw [if_neg fun h => by omega, if_neg fun h => by omega]

omit [FloatOps F] in
theorem amount_bar (d : Fin 3) : (rd (F := F) Y).amount (barCell c) 0 d = 1 := by dsimp only [rd]; exact if_pos rfl
omit [FloatOps F] in
theorem amount_send (d : Fin 3) : (rd (F := F) Y).amount (sendCell c j) 0 d = N := by dsimp only [rd]; exact if_neg (send_ne_bar j)
omit [FloatOps F] in
theorem amount_recv (d : Fin 3) : (rd (F := F) Y).amount (recvCell c j) 0 d = N := by dsimp only [rd]; exact if_neg (recv_ne_bar j)

omit [FloatOps F] in
theorem expect_bar : (rd (F := F) Y).expect (barCell c) 0 = 3 := by
  unfold Schedule.expect Schedule.amountOf
  rw [duties_bar, Finset.sum_congr rfl fun d _ => amount_bar Y c d, Finset.sum_const, Finset.card_univ, Fintype.card_fin, smul_eq_mul]
omit [FloatOps F] in
theorem expect_send : (rd (F := F) Y).expect (sendCell c j) 0 = N := by
  unfold Schedule.expect Schedule.amountOf; rw [duties_send, Finset.sum_singleton, amount_send]
omit [FloatOps F] in
theorem expect_recv : (rd (F := F) Y).expect (recvCell c j) 0 = N := by
  unfold Schedule.expect Schedule.amountOf; rw [duties_recv, Finset.sum_singleton, amount_recv]

omit [FloatOps F] in
theorem payload_bar (d : Fin 3) : (rd (F := F) Y).payload (barCell c) 0 d = barPay c d := by dsimp only [rd]; exact if_pos rfl
omit [FloatOps F] in
theorem payload_recv (d : Fin 3) : (rd (F := F) Y).payload (recvCell c j) 0 d = recvPay Y c j := by
  dsimp only [rd]; rw [if_neg (recv_ne_bar j)]
  fin_cases j
  · exact if_pos rfl
  · rw [if_neg (by decide)]; exact if_pos rfl
  · rw [if_neg (by decide), if_neg (by decide)]; exact if_pos rfl
omit [FloatOps F] in
theorem payload_send (d : Fin 3) : (rd (F := F) Y).payload (sendCell c j) 0 d = sendPay c j := by
  dsimp only [rd]; rw [if_neg (send_ne_bar j), if_neg (send_ne_recv j 0), if_neg (send_ne_recv j 1), if_neg (send_ne_recv j 2)]
  fin_cases j
  · exact if_pos rfl
  · rw [if_neg (by decide)]; exact if_pos rfl
  · rw [if_neg (by decide), if_neg (by decide)]; exact if_pos rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The rest of a cell's round, no duty taken. -/
theorem rest_bar : bigSep ((rd (F := F) Y).duties (barCell c) 0 \ ∅) (fun d => (rd (F := F) Y).payload (barCell c) 0 d) = iprop(barPay c 0 ∗ barPay c 1 ∗ barPay c 2) := by
  rw [Finset.sdiff_empty, duties_bar, bigSep_fin3, payload_bar, payload_bar, payload_bar]
omit [FloatOps F] in
theorem rest_send : bigSep ((rd (F := F) Y).duties (sendCell c j) 0 \ ∅) (fun d => (rd (F := F) Y).payload (sendCell c j) 0 d) = sendPay c j := by
  rw [Finset.sdiff_empty, duties_send, bigSep_singleton, payload_send]
omit [FloatOps F] in
theorem rest_recv : bigSep ((rd (F := F) Y).duties (recvCell c j) 0 \ ∅) (fun d => (rd (F := F) Y).payload (recvCell c j) 0 d) = recvPay Y c j := by
  rw [Finset.sdiff_empty, duties_recv, bigSep_singleton, payload_recv]

end Sched

/-! ## What each core owes at launch; the levels -/

/-- What device `c` still owes after its three signals and its first `k` copies, and at launch; each payment is the last
    summand. -/
def Ob2 (c : Dev nD) : CellTallies nD τ sig Unit := tallyAt (recvCell (peer c 2) 0) () N
def Ob1 (c : Dev nD) : CellTallies nD τ sig Unit := Ob2 c + tallyAt (recvCell (peer c 1) 1) () N
def Ob0 (c : Dev nD) : CellTallies nD τ sig Unit := Ob1 c + tallyAt (recvCell (peer c 0) 2) () N
def Os2 (c : Dev nD) : CellTallies nD τ sig Unit := Ob0 c + tallyAt (barCell (peer c 2)) () 1
def Os1 (c : Dev nD) : CellTallies nD τ sig Unit := Os2 c + tallyAt (barCell (peer c 1)) () 1
def O₀ (c : Dev nD) : CellTallies nD τ sig Unit := Os1 c + tallyAt (barCell (peer c 0)) () 1

def L (g : GSem nD τ sig) : Finset Unit := if g.1.2 = .tc then {()} else ∅
/-- receive cells at 2, barrier cells at 1, everything else at 0. -/
def lv (g : GSem nD τ sig) (_ : Unit) : ℕ :=
  if g.2 = .reg barS then 1 else if g.2 = .dma (recvS 0) ∨ g.2 = .dma (recvS 1) ∨ g.2 = .dma (recvS 2) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 3) (u : Unit) : lv (recvCell c j) u = 2 := by
  unfold lv; rw [if_neg (recv_ne_bar j)]; fin_cases j
  · exact if_pos (.inl rfl)
  · exact if_pos (.inr (.inl rfl))
  · exact if_pos (.inr (.inr rfl))

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem Ob0_pos {c : Dev nD} {g : GSem nD τ sig} {u : Unit} (h : 0 < Ob0 c g u) : ∃ d j, g = recvCell d j := by
  unfold Ob0 Ob1 Ob2 at h
  rcases add_pos_or h with h | h
  · rcases add_pos_or h with h | h <;> exact ⟨_, _, tally_pos h⟩
  · exact ⟨_, _, tally_pos h⟩
theorem Ob1_pos {c : Dev nD} {g : GSem nD τ sig} {u : Unit} (h : 0 < Ob1 c g u) : ∃ d j, g = recvCell d j :=
  Ob0_pos (c := c) (u := u) (by unfold Ob0; rw [Pi.add_apply, Finsupp.add_apply]; omega)
theorem Ob2_pos {c : Dev nD} {g : GSem nD τ sig} {u : Unit} (h : 0 < Ob2 c g u) : ∃ d j, g = recvCell d j :=
  Ob1_pos (c := c) (u := u) (by unfold Ob1; rw [Pi.add_apply, Finsupp.add_apply]; omega)
theorem O₀_pos {c : Dev nD} {g : GSem nD τ sig} {u : Unit} (h : 0 < O₀ c g u) : (∃ d j, g = recvCell d j) ∨ ∃ d, g = barCell d := by
  unfold O₀ Os1 Os2 at h
  rcases add_pos_or h with h | h
  · rcases add_pos_or h with h | h
    · rcases add_pos_or h with h | h
      · exact .inl (Ob0_pos h)
      · exact .inr ⟨_, tally_pos h⟩
    · exact .inr ⟨_, tally_pos h⟩
  · exact .inr ⟨_, tally_pos h⟩

omit [FloatOps F] in
/-- A wait at a cell of level `n` while owing only cells above it. -/
theorem mayWait_of (c : Dev nD) (sm : SemLoc sig) (n : ℕ) (O : CellTallies nD τ sig Unit) (hs : lv ((c : Thread nD τ), sm) () ≤ n)
    (hO : ∀ g u, 0 < O g u → (∃ d j, g = recvCell d j) ∧ n < 2 ∨ (∃ d, g = barCell d) ∧ n < 1) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rcases hO g u hg with ⟨⟨d, j, rfl⟩, -⟩ | ⟨⟨d, rfl⟩, -⟩ <;> exact Finset.mem_singleton_self _)
    (fun p hp => by rw [Finset.mem_singleton.mp hp]; exact hs)
    (fun g u hg => by
      rcases hO g u hg with ⟨⟨d, j, rfl⟩, h⟩ | ⟨⟨d, rfl⟩, h⟩
      · rw [lv_recv]; exact h
      · rw [lv_bar]; exact h)

theorem lv_low (c : Dev nD) (q : DmaSem sig) (hq : ∀ j, q ≠ recvS j) : lv ((c : Thread nD τ), .dma q) () ≤ 0 := by
  unfold lv
  rw [if_neg (fun h => by cases h), if_neg]
  rintro (h | h | h)
  · exact hq 0 (SemLoc.dma.inj h)
  · exact hq 1 (SemLoc.dma.inj h)
  · exact hq 2 (SemLoc.dma.inj h)

omit [FloatOps F] in
theorem mayWait_stage (c : Dev nD) (q : DmaSem sig) (hq : ∀ j, q ≠ recvS j) (O : CellTallies nD τ sig Unit)
    (hO : O = O₀ c ∨ O = Ob0 c ∨ O = Ob1 c ∨ O = Ob2 c ∨ O = 0) :
    (levAts L lv : sProp 𝕄) ⊢ MayWait (c : Thread nD τ) (.dma q) () O := by
  refine mayWait_of c (.dma q) 0 O (lv_low c q hq) fun g u hg => ?_
  rcases hO with rfl | rfl | rfl | rfl | rfl
  · rcases O₀_pos hg with h | h
    · exact .inl ⟨h, by decide⟩
    · exact .inr ⟨h, by decide⟩
  · exact .inl ⟨Ob0_pos hg, by decide⟩
  · exact .inl ⟨Ob1_pos hg, by decide⟩
  · exact .inl ⟨Ob2_pos hg, by decide⟩
  · exact absurd hg (Nat.lt_irrefl 0)

omit [FloatOps F] in
theorem mayWait_bar (c : Dev nD) : (levAts L lv : sProp 𝕄) ⊢ MayWait (c : Thread nD τ) (.reg barS) () (Ob0 c) :=
  mayWait_of c (.reg barS) 1 (Ob0 c) (by rw [lv_bar]) fun g u hg => .inl ⟨Ob0_pos hg, by decide⟩

abbrev 𝒱₀ : Variants := Variants.none

end Cert.AllToAll

end
-- ==== Proof.Values.lean ====
/-
# `Values`: what the body computes, as functions of the arguments' contents

A block of the product is computed 128 columns at a time. `wcol c b q` is the chunk of the second matrix that device
`c` uses for chunk `q` of its block `b` (`b = 3` is the block it keeps), `wq` the chunk narrowed, and `ychunk` / `ochunk` the
activated chunk of the product for a block that is sent / kept. `blk` puts four chunks together into a block; `outv` puts
the four blocks of rows of the result together. The other lemmas read these values off the buffers' contents that a run
leaves: the narrowed chunk through the two buffers it passes, a block from its slab's four stores, the result from
its seven stores. Everything is over any float values `F`.
-/
module

public import proofs.«01_k».proof.Proof.Common
public import Idealize.ShloMosaic.Lib.Writes
public import Idealize.ShloMosaic.Lib.WritesUnit
public import Idealize.ShloMosaic.Lib.ViewIndex
public import Idealize.ShloMosaic.Lib.VecWindow
public import Idealize.ShloMosaic.Lib.Pipeline.Value

@[expose] public section

noncomputable section

namespace Cert.AllToAll

open Cert.KernelIdeal Cert.KernelIdeal.Gen

open Idealize.ShloMosaic
open Idealize.ShloMosaic.TcCoe
open Idealize.ShloMosaic.ValueIdx

variable {F : FTy → Type} [FloatOps F]

/-! ## The values -/

/-- The product of the two scales, each read from its one-element buffer. -/
def sv (fsx : (cc0_stg0_0 : Ref sig .tc).ty.Contents (Elt F)) (fsw : (cc0_stg1_0 : Ref sig .tc).ty.Contents (Elt F)) : F .f32 :=
  k0_pay1 (View.readAt (Elt F) sxM.view (Rect.unit ![0] ![1] inb_S1_S1_0).toLoadRect fsx (Shape.Idx.first (by decide)))
    (View.readAt (Elt F) swM.view (Rect.unit ![0] ![1] inb_S1_S1_0).toLoadRect fsw (Shape.Idx.first (by decide)))

/-- The first matrix, narrowed. -/
def xq (fx : (cc0_stg2_0 : Ref sig .tc).ty.Contents (Elt F)) : Vec F S1024x4096 .fp8e4m3 :=
  k0_pay2 (View.readAt (Elt F) xM.view (Rect.unit (s := S1024x4096) ![0, 0] ![1024, 4096] inb_S1024x4096_S1024x4096_0_0).toLoadRect fx)

theorem col_lt (c : Dev nD) (b q : Fin 4) (k : Fin 128) : 512 * ((c.val + b.val + 1) % 4) + 128 * q.val + k.val < 2048 := by omega

/-- The columns of the second matrix device `c` uses for chunk `q` of block `b`. -/
def wcol (c : Dev nD) (b q : Fin 4) (fw : (main_arg1 : Ref sig .tc).ty.Contents (Elt F)) : Vec F S4096x128 .f32 :=
  fun j => fw (ix2 (n0 := 4096) (n1 := 2048) (j 0) ⟨512 * ((c.val + b.val + 1) % 4) + 128 * q.val + (j 1).val, col_lt c b q (j 1)⟩)

/-- A chunk narrowed, as one slot of a two-slot buffer. -/
def wq (d : Vec F S4096x128 .f32) : FVec F S1x4096x128 .fp8e4m3 :=
  shapeCast S1x4096x128 (truncf .fp8e4m3 (d : FVec F S4096x128 .f32) bitsLt_fp8e4m3_f32) shapeCasts_S4096x128_S1x4096x128

section
variable (fsx : (cc0_stg0_0 : Ref sig .tc).ty.Contents (Elt F)) (fsw : (cc0_stg1_0 : Ref sig .tc).ty.Contents (Elt F))
    (fx : (cc0_stg2_0 : Ref sig .tc).ty.Contents (Elt F)) (fw : (main_arg1 : Ref sig .tc).ty.Contents (Elt F))

/-- Chunk `q` of block `b`, of a block that is sent: -/
def ychunk (c : Dev nD) (b q : Fin 4) : FVec F S1x1024x128 .bf16 := k0_pay4 (sv fsx fsw) (xq fx) (wq (wcol c b q fw))
/-- and of the block that is kept. -/
def ochunk (c : Dev nD) (q : Fin 4) : FVec F S1024x128 .f32 := k0_pay28 (sv fsx fsw) (xq fx) (wq (wcol c 3 q fw))

/-- The block whose chunks are `w`. -/
def joinY (w : Fin 4 → FVec F S1x1024x128 .bf16) : S1024x512.Idx → Elt F .bf16 :=
  fun i => w ⟨(i 1).val / 128, Nat.div_lt_of_lt_mul (i 1).isLt⟩
    (ix3 (n0 := 1) (n1 := 1024) (n2 := 128) 0 (i 0) ⟨(i 1).val % 128, Nat.mod_lt _ (by decide)⟩)

/-- Block `b` of device `c`'s columns. -/
def blk (c : Dev nD) (b : Fin 3) : S1024x512.Idx → Elt F .bf16 := joinY (ychunk fsx fsw fx fw c (b.castSucc))

end

theorem row_lt (i : S4096x512.Idx) : (i 0).val / 1024 < 4 := Nat.div_lt_of_lt_mul (i 0).isLt
theorem chunk_lt (i : S4096x512.Idx) : (i 1).val / 128 < 4 := Nat.div_lt_of_lt_mul (i 1).isLt

/-- How many places after `c` the device is that the rows of `i` come from. -/
def step (c : Dev nD) (i : S4096x512.Idx) : ℕ := ((i 0).val / 1024 + 4 - c.val) % 4

theorem step_lt (c : Dev nD) (i : S4096x512.Idx) : step c i < 4 := Nat.mod_lt _ (by decide)

/-- The result from the block kept, in chunks `t`, and the three received ones, widened: `u j` comes from `peer c j`. -/
def outv (c : Dev nD) (u : Fin 3 → FVec F S1024x512 .f32) (t : Fin 4 → FVec F S1024x128 .f32) : Vec F S4096x512 .f32 :=
  fun i => if h : step c i = 0
    then t ⟨(i 1).val / 128, chunk_lt i⟩ (ix2 (n0 := 1024) (n1 := 128) ⟨(i 0).val % 1024, Nat.mod_lt _ (by decide)⟩ ⟨(i 1).val % 128, Nat.mod_lt _ (by decide)⟩)
    else u ⟨step c i - 1, by have := step_lt c i; omega⟩ (ix2 (n0 := 1024) (n1 := 512) ⟨(i 0).val % 1024, Nat.mod_lt _ (by decide)⟩ (i 1))

/-! ## The offsets -/

theorem off1_eq (c : Dev nD) (b : Fin 3) (q : Fin 4) :
    k0_off1 c (BitVec.ofNat 32 b.val) (BitVec.ofNat 32 (128 * q.val)) = ![0, 512 * ((c.val + b.castSucc.val + 1) % 4) + 128 * q.val] := by
  revert c b q; decide +kernel
theorem off2_eq (c : Dev nD) (q : Fin 4) :
    k0_off2 c (BitVec.ofNat 32 (128 * q.val)) = ![0, 512 * ((c.val + (3 : Fin 4).val + 1) % 4) + 128 * q.val] := by
  revert c q; decide +kernel
theorem off3_eq (c : Dev nD) : k0_off3 c = ![1024 * c.val, 0] := by revert c; decide +kernel
theorem off4_eq (c : Dev nD) : k0_off4 c = ![1024 * c.val, 128] := by revert c; decide +kernel
theorem off5_eq (c : Dev nD) : k0_off5 c = ![1024 * c.val, 256] := by revert c; decide +kernel
theorem off6_eq (c : Dev nD) : k0_off6 c = ![1024 * c.val, 384] := by revert c; decide +kernel
theorem off7_eq (c : Dev nD) (k : Fin 3) : k0_off7 c (BitVec.ofNat 32 (1 + k.val)) = ![1024 * ((c.val + 1 + k.val) % 4), 0] := by
  revert c k; decide +kernel

/-! ## Reading the buffers -/

/-- The narrowed first matrix, read back from its buffer. -/
theorem xq_at (fx : (cc0_stg2_0 : Ref sig .tc).ty.Contents (Elt F)) :
    x8M.view.readCov [(⟨Rect.unit (s := S1024x4096) ![0, 0] ![1024, 4096] inb_S1024x4096_S1024x4096_0_0,
      k0_pay2 (View.readAt (Elt F) xM.view (Rect.unit (s := S1024x4096) ![0, 0] ![1024, 4096] inb_S1024x4096_S1024x4096_0_0).toLoadRect fx)⟩ : View.Piece (Elt F) S1024x4096 .fp8e4m3)]
      (Rect.unit ![0, 0] S1024x4096.size inb_S1024x4096_S1024x4096_0_0).toLoadRect = xq fx :=
  View.readCov_cons_toLoadRect _ _ _ _

/-- A slot last filled by a whole copy holds what was copied. -/
theorem slot_read (k : Fin 2) (f : (wslot k).view.ty.Contents (Elt F)) (d : S4096x128.Idx → Elt F .f32) (L : List (View.Piece (Elt F) S4096x128 .f32)) :
    (wslot k).view.read (Elt F) ((wslot k).view.writes (Elt F) f ((⟨Rect.whole S4096x128, d⟩ : View.Piece (Elt F) S4096x128 .f32) :: L)) = d := by
  funext x
  have h := View.read_writes_cons_emb (wslot k).view f (Rect.whole S4096x128) d L x
  rwa [Rect.emb_whole_apply] at h

/-- The columns a local copy reads. -/
theorem slice_read (c : Dev nD) (b q : Fin 4) (fw : (main_arg1 : Ref sig .tc).ty.Contents (Elt F)) (o : Fin 2 → ℕ)
    (ho : o = ![0, 512 * ((c.val + b.val + 1) % 4) + 128 * q.val]) (inb : ∀ a, o a + S4096x128.size a ≤ S4096x2048.size a) :
    (wM.slice (Rect.unit (s := S4096x2048) o S4096x128.size inb) (fun _ => rfl)).view.read (Elt F) fw = wcol c b q fw := by
  subst ho
  funext j
  show fw _ = fw _
  refine congrArg fw (funext fun a => Fin.ext ?_)
  match a with
  | ⟨0, _⟩ => show 0 + 1 * (j 0).val = (j 0).val; omega
  | ⟨1, _⟩ => show (512 * ((c.val + b.val + 1) % 4) + 128 * q.val) + 1 * (j 1).val = _ + (j 1).val; omega

/-- A chunk, read back from the buffer of narrowed chunks after its copy into the landing slot, the load from there and the
    store narrowed. -/
theorem wq_at (k : Fin 2) (c : Dev nD) (b q : Fin 4) (fw : (main_arg1 : Ref sig .tc).ty.Contents (Elt F)) (o : Fin 2 → ℕ)
    (ho : o = ![0, 512 * ((c.val + b.val + 1) % 4) + 128 * q.val]) (inb : ∀ a, o a + S4096x128.size a ≤ S4096x2048.size a)
    (f : (wslot k).view.ty.Contents (Elt F)) (L : List (View.Piece (Elt F) S4096x128 .f32)) (L' : List (View.Piece (Elt F) S2x4096x128 .fp8e4m3)) :
    w8M.view.readCov ((⟨Rect.unit (s := S2x4096x128) ![k.val, 0, 0] S1x4096x128.size (inb_wslot k),
        k0_pay3 (View.readAt (Elt F) wfM.view (Rect.unit (s := S2x4096x128) ![k.val, 0, 0] S1x4096x128.size (inb_wslot k)).toLoadRect
          ((wslot k).view.writes (Elt F) f ((⟨Rect.whole S4096x128,
            ReadAs.same.apply ((wM.slice (Rect.unit (s := S4096x2048) o S4096x128.size inb) (fun _ => rfl)).view.read (Elt F) fw)⟩ : View.Piece (Elt F) S4096x128 .f32) :: L)))⟩
          : View.Piece (Elt F) S2x4096x128 .fp8e4m3) :: L')
      (Rect.unit (s := S2x4096x128) ![k.val, 0, 0] S1x4096x128.size (inb_wslot k)).toLoadRect = wq (wcol c b q fw) := by
  refine (View.readCov_cons_toLoadRect _ _ _ _).trans ?_
  have h := slot_read k f (ReadAs.same.apply ((wM.slice (Rect.unit (s := S4096x2048) o S4096x128.size inb) (fun _ => rfl)).view.read (Elt F) fw)) L
  rw [show (ReadAs.same.apply ((wM.slice (Rect.unit (s := S4096x2048) o S4096x128.size inb) (fun _ => rfl)).view.read (Elt F) fw)) = wcol c b q fw from slice_read c b q fw o ho inb] at h ⊢
  exact congrArg wq h

/-- A slab at an index is its buffer at the index behind the slab's number. -/
theorem slab_read (M : Memref sig .tc .vmem S3x1024x512 .bf16) (b : Fin 3) (f : M.view.ty.Contents (Elt F)) (i : S1024x512.Idx) :
    (slabOf M b).view.read (Elt F) f i = M.view.read (Elt F) f (ix3 (n0 := 3) (n1 := 1024) (n2 := 512) b (i 0) (i 1)) := by
  have h : (Rect.unit (s := S3x1024x512) ![b.val, 0, 0] S1x1024x512.size (inb_slab b)).emb
      (Shape.reshapeEquiv (squeezes_S1x1024x512_S1024x512).numel_eq i) = ix3 (n0 := 3) (n1 := 1024) (n2 := 512) b (i 0) (i 1) := by
    rw [show Shape.reshapeEquiv (squeezes_S1x1024x512_S1024x512).numel_eq i = Fin.cons ⟨0, Nat.one_pos⟩ i from Shape.reshapeEquiv_cons_one _ i]
    refine Shape.idx3_ext ?_ ?_ ?_
    · show b.val + 1 * 0 = b.val; omega
    · show 0 + 1 * (i 0).val = (i 0).val; omega
    · show 0 + 1 * (i 1).val = (i 1).val; omega
  exact congrArg (M.view.read (Elt F) f) h

theorem inb_chunk (b : Fin 3) (q : Fin 4) : ∀ a, (![b.val, 0, 128 * q.val] : Fin 3 → Nat) a + S1x1024x128.size a ≤ S3x1024x512.size a := by
  revert b q; decide

/-- A slab whose four chunks were stored one after the other holds the block they make. -/
theorem slab_blk (b : Fin 3) (f : yM.view.ty.Contents (Elt F)) (w : Fin 4 → FVec F S1x1024x128 .bf16) :
    (slabOf yM b).view.read (Elt F) (yM.view.writes (Elt F) f
      [(⟨Rect.unit ![b.val, 0, 128 * (3 : Fin 4).val] S1x1024x128.size (inb_chunk b 3), w 3⟩ : View.Piece (Elt F) S3x1024x512 .bf16),
       ⟨Rect.unit ![b.val, 0, 128 * (2 : Fin 4).val] S1x1024x128.size (inb_chunk b 2), w 2⟩,
       ⟨Rect.unit ![b.val, 0, 128 * (1 : Fin 4).val] S1x1024x128.size (inb_chunk b 1), w 1⟩,
       ⟨Rect.unit ![b.val, 0, 128 * (0 : Fin 4).val] S1x1024x128.size (inb_chunk b 0), w 0⟩]) = joinY w := by
  funext i
  have hi : (i 1).val < 512 := (i 1).isLt
  rw [slab_read]
  have hit : ∀ (q : Fin 4) (L : List (View.Piece (Elt F) S3x1024x512 .bf16)), (i 1).val / 128 = q.val →
      yM.view.read (Elt F) (yM.view.writes (Elt F) f ((⟨Rect.unit ![b.val, 0, 128 * q.val] S1x1024x128.size (inb_chunk b q), w q⟩ : View.Piece (Elt F) S3x1024x512 .bf16) :: L))
        (ix3 (n0 := 3) (n1 := 1024) (n2 := 512) b (i 0) (i 1)) = joinY w i := by
    intro q L hq
    refine (View.read_writes_cons_unit_of_mem yM.view f (inb_chunk b q) (w q) L _
      (ix3 (n0 := 1) (n1 := 1024) (n2 := 128) 0 (i 0) ⟨(i 1).val % 128, Nat.mod_lt _ (by decide)⟩) rfl fun a => ?_).trans ?_
    · match a with
      | ⟨0, _⟩ => rfl
      | ⟨1, _⟩ => show (i 0).val = 0 + (i 0).val; omega
      | ⟨2, _⟩ => show (i 1).val = 128 * q.val + (i 1).val % 128; omega
    · unfold joinY
      exact congrFun (congrArg w (Fin.ext hq.symm)) _
  have miss : ∀ (q : Fin 4) (L : List (View.Piece (Elt F) S3x1024x512 .bf16)), (i 1).val / 128 ≠ q.val →
      yM.view.read (Elt F) (yM.view.writes (Elt F) f ((⟨Rect.unit ![b.val, 0, 128 * q.val] S1x1024x128.size (inb_chunk b q), w q⟩ : View.Piece (Elt F) S3x1024x512 .bf16) :: L))
        (ix3 (n0 := 3) (n1 := 1024) (n2 := 512) b (i 0) (i 1))
      = yM.view.read (Elt F) (yM.view.writes (Elt F) f L) (ix3 (n0 := 3) (n1 := 1024) (n2 := 512) b (i 0) (i 1)) := by
    intro q L hq
    refine View.read_writes_cons_unit_of_not_mem yM.view f (inb_chunk b q) (w q) L _ rfl 2 ?_
    show (i 1).val < 128 * q.val ∨ 128 * q.val + 128 ≤ (i 1).val
    omega
  by_cases h3 : (i 1).val / 128 = (3 : Fin 4).val
  · exact hit 3 _ h3
  rw [miss 3 _ h3]
  by_cases h2 : (i 1).val / 128 = (2 : Fin 4).val
  · exact hit 2 _ h2
  rw [miss 2 _ h2]
  by_cases h1 : (i 1).val / 128 = (1 : Fin 4).val
  · exact hit 1 _ h1
  rw [miss 1 _ h1]
  refine hit 0 _ ?_
  have h1' : (i 1).val / 128 ≠ 1 := h1
  have h2' : (i 1).val / 128 ≠ 2 := h2
  have h3' : (i 1).val / 128 ≠ 3 := h3
  show (i 1).val / 128 = 0
  omega

/-- The same, the chunks given by what they equal. -/
theorem slab_blk' (b : Fin 3) (f : yM.view.ty.Contents (Elt F)) (w : Fin 4 → FVec F S1x1024x128 .bf16) {w0 w1 w2 w3 : FVec F S1x1024x128 .bf16}
    (e0 : w0 = w 0) (e1 : w1 = w 1) (e2 : w2 = w 2) (e3 : w3 = w 3) :
    (slabOf yM b).view.read (Elt F) (yM.view.writes (Elt F) f
      [(⟨Rect.unit ![b.val, 0, 128 * (3 : Fin 4).val] S1x1024x128.size (inb_chunk b 3), w3⟩ : View.Piece (Elt F) S3x1024x512 .bf16),
       ⟨Rect.unit ![b.val, 0, 128 * (2 : Fin 4).val] S1x1024x128.size (inb_chunk b 2), w2⟩,
       ⟨Rect.unit ![b.val, 0, 128 * (1 : Fin 4).val] S1x1024x128.size (inb_chunk b 1), w1⟩,
       ⟨Rect.unit ![b.val, 0, 128 * (0 : Fin 4).val] S1x1024x128.size (inb_chunk b 0), w0⟩]) = joinY w := by
  subst e0 e1 e2 e3; exact slab_blk b f w

/-- A received block, loaded from its slab and widened. -/
theorem recv_at (j : Fin 3) (g : rM.view.ty.Contents (Elt F)) (V : S1024x512.Idx → Elt F .bf16) (h : (slabOf rM j).view.read (Elt F) g = V) :
    k0_pay35 (View.readAt (Elt F) rM.view (Rect.unit (s := S3x1024x512) ![j.val, 0, 0] S1x1024x512.size (inb_slab j)).toLoadRect g)
      = extf .f32 (V : FVec F S1024x512 .bf16) bitsLt_bf16_f32 :=
  congrArg (fun v => extf .f32 (v : FVec F S1024x512 .bf16) bitsLt_bf16_f32) h

/-- The result's contents after its seven stores. -/
theorem out_at (c : Dev nD) (fo : oM.view.ty.Contents (Elt F)) (u : Fin 3 → FVec F S1024x512 .f32) (t : Fin 4 → FVec F S1024x128 .f32)
    {o0 o1 o2 t0 t1 t2 t3 : Fin 2 → ℕ}
    (h0 : o0 = ![1024 * ((c.val + 1 + (0 : Fin 3).val) % 4), 0]) (h1 : o1 = ![1024 * ((c.val + 1 + (1 : Fin 3).val) % 4), 0]) (h2 : o2 = ![1024 * ((c.val + 1 + (2 : Fin 3).val) % 4), 0])
    (g0 : t0 = ![1024 * c.val, 128 * (0 : Fin 4).val]) (g1 : t1 = ![1024 * c.val, 128 * (1 : Fin 4).val])
    (g2 : t2 = ![1024 * c.val, 128 * (2 : Fin 4).val]) (g3 : t3 = ![1024 * c.val, 128 * (3 : Fin 4).val])
    (i0 : ∀ a, o0 a + S1024x512.size a ≤ S4096x512.size a) (i1 : ∀ a, o1 a + S1024x512.size a ≤ S4096x512.size a) (i2 : ∀ a, o2 a + S1024x512.size a ≤ S4096x512.size a)
    (j0 : ∀ a, t0 a + S1024x128.size a ≤ S4096x512.size a) (j1 : ∀ a, t1 a + S1024x128.size a ≤ S4096x512.size a)
    (j2 : ∀ a, t2 a + S1024x128.size a ≤ S4096x512.size a) (j3 : ∀ a, t3 a + S1024x128.size a ≤ S4096x512.size a) :
    oM.view.writes (Elt F) fo
      [(⟨Rect.unit o0 S1024x512.size i0, u 0⟩ : View.Piece (Elt F) S4096x512 .f32), ⟨Rect.unit o1 S1024x512.size i1, u 1⟩, ⟨Rect.unit o2 S1024x512.size i2, u 2⟩,
       ⟨Rect.unit t3 S1024x128.size j3, t 3⟩, ⟨Rect.unit t2 S1024x128.size j2, t 2⟩, ⟨Rect.unit t1 S1024x128.size j1, t 1⟩, ⟨Rect.unit t0 S1024x128.size j0, t 0⟩]
      = outv c u t := by
  funext i
  have hr : ∀ (f : oM.view.ty.Contents (Elt F)), f i = oM.view.read (Elt F) f i := fun _ => rfl
  refine (hr _).trans ?_
  have hi0 : (i 0).val < 4096 := (i 0).isLt
  have hi1 : (i 1).val < 512 := (i 1).isLt
  have hc : c.val < 4 := c.isLt
  have hit : ∀ (k : Fin 3) (o : Fin 2 → ℕ) (ho : o = ![1024 * ((c.val + 1 + k.val) % 4), 0]) (inb : ∀ a, o a + S1024x512.size a ≤ S4096x512.size a)
      (L : List (View.Piece (Elt F) S4096x512 .f32)), step c i = k.val + 1 →
      oM.view.read (Elt F) (oM.view.writes (Elt F) fo ((⟨Rect.unit o S1024x512.size inb, u k⟩ : View.Piece (Elt F) S4096x512 .f32) :: L)) i = outv c u t i := by
    intro k o ho inb L hk
    refine (View.read_writes_cons_unit_of_mem oM.view fo inb (u k) L i
      (ix2 (n0 := 1024) (n1 := 512) ⟨(i 0).val % 1024, Nat.mod_lt _ (by decide)⟩ (i 1)) ho fun a => ?_).trans ?_
    · unfold step at hk
      match a with
      | ⟨0, _⟩ => show (i 0).val = 1024 * ((c.val + 1 + k.val) % 4) + (i 0).val % 1024; omega
      | ⟨1, _⟩ => show (i 1).val = 0 + (i 1).val; omega
    · unfold outv
      rw [dif_neg (by omega)]
      exact congrFun (congrArg u (Fin.ext (by show k.val = step c i - 1; omega))) _
  have miss : ∀ (k : Fin 3) (o : Fin 2 → ℕ) (ho : o = ![1024 * ((c.val + 1 + k.val) % 4), 0]) (inb : ∀ a, o a + S1024x512.size a ≤ S4096x512.size a)
      (L : List (View.Piece (Elt F) S4096x512 .f32)), step c i ≠ k.val + 1 →
      oM.view.read (Elt F) (oM.view.writes (Elt F) fo ((⟨Rect.unit o S1024x512.size inb, u k⟩ : View.Piece (Elt F) S4096x512 .f32) :: L)) i
        = oM.view.read (Elt F) (oM.view.writes (Elt F) fo L) i := by
    intro k o ho inb L hk
    refine View.read_writes_cons_unit_of_not_mem oM.view fo inb (u k) L i ho 0 ?_
    unfold step at hk
    have := k.isLt
    show (i 0).val < 1024 * ((c.val + 1 + k.val) % 4) ∨ 1024 * ((c.val + 1 + k.val) % 4) + 1024 ≤ (i 0).val
    omega
  have hitT : ∀ (q : Fin 4) (o : Fin 2 → ℕ) (ho : o = ![1024 * c.val, 128 * q.val]) (inb : ∀ a, o a + S1024x128.size a ≤ S4096x512.size a)
      (L : List (View.Piece (Elt F) S4096x512 .f32)), step c i = 0 → (i 1).val / 128 = q.val →
      oM.view.read (Elt F) (oM.view.writes (Elt F) fo ((⟨Rect.unit o S1024x128.size inb, t q⟩ : View.Piece (Elt F) S4096x512 .f32) :: L)) i = outv c u t i := by
    intro q o ho inb L hs hq
    refine (View.read_writes_cons_unit_of_mem oM.view fo inb (t q) L i
      (ix2 (n0 := 1024) (n1 := 128) ⟨(i 0).val % 1024, Nat.mod_lt _ (by decide)⟩ ⟨(i 1).val % 128, Nat.mod_lt _ (by decide)⟩) ho fun a => ?_).trans ?_
    · unfold step at hs
      match a with
      | ⟨0, _⟩ => show (i 0).val = 1024 * c.val + (i 0).val % 1024; omega
      | ⟨1, _⟩ => show (i 1).val = 128 * q.val + (i 1).val % 128; omega
    · unfold outv
      rw [dif_pos hs]
      exact congrFun (congrArg t (Fin.ext hq.symm)) _
  have missT : ∀ (q : Fin 4) (o : Fin 2 → ℕ) (ho : o = ![1024 * c.val, 128 * q.val]) (inb : ∀ a, o a + S1024x128.size a ≤ S4096x512.size a)
      (L : List (View.Piece (Elt F) S4096x512 .f32)), (i 1).val / 128 ≠ q.val →
      oM.view.read (Elt F) (oM.view.writes (Elt F) fo ((⟨Rect.unit o S1024x128.size inb, t q⟩ : View.Piece (Elt F) S4096x512 .f32) :: L)) i
        = oM.view.read (Elt F) (oM.view.writes (Elt F) fo L) i := by
    intro q o ho inb L hq
    refine View.read_writes_cons_unit_of_not_mem oM.view fo inb (t q) L i ho 1 ?_
    show (i 1).val < 128 * q.val ∨ 128 * q.val + 128 ≤ (i 1).val
    omega
  have hs := step_lt c i
  by_cases s0 : step c i = (0 : Fin 3).val + 1
  · exact hit 0 o0 h0 i0 _ s0
  rw [miss 0 o0 h0 i0 _ s0]
  by_cases s1 : step c i = (1 : Fin 3).val + 1
  · exact hit 1 o1 h1 i1 _ s1
  rw [miss 1 o1 h1 i1 _ s1]
  by_cases s2 : step c i = (2 : Fin 3).val + 1
  · exact hit 2 o2 h2 i2 _ s2
  rw [miss 2 o2 h2 i2 _ s2]
  have e0 : step c i ≠ 1 := s0
  have e1 : step c i ≠ 2 := s1
  have e2 : step c i ≠ 3 := s2
  have hz : step c i = 0 := by omega
  by_cases q3 : (i 1).val / 128 = (3 : Fin 4).val
  · exact hitT 3 t3 g3 j3 _ hz q3
  rw [missT 3 t3 g3 j3 _ q3]
  by_cases q2 : (i 1).val / 128 = (2 : Fin 4).val
  · exact hitT 2 t2 g2 j2 _ hz q2
  rw [missT 2 t2 g2 j2 _ q2]
  by_cases q1 : (i 1).val / 128 = (1 : Fin 4).val
  · exact hitT 1 t1 g1 j1 _ hz q1
  rw [missT 1 t1 g1 j1 _ q1]
  refine hitT 0 t0 g0 j0 _ hz ?_
  have d1 : (i 1).val / 128 ≠ 1 := q1
  have d2 : (i 1).val / 128 ≠ 2 := q2
  have d3 : (i 1).val / 128 ≠ 3 := q3
  show (i 1).val / 128 = 0
  omega

/-- The same, the pieces given by what they equal. -/
theorem out_at' (c : Dev nD) (fo : oM.view.ty.Contents (Elt F)) (u : Fin 3 → FVec F S1024x512 .f32) (t : Fin 4 → FVec F S1024x128 .f32)
    {v0 v1 v2 : FVec F S1024x512 .f32} {s0 s1 s2 s3 : FVec F S1024x128 .f32}
    (f0 : v0 = u 0) (f1 : v1 = u 1) (f2 : v2 = u 2) (e0 : s0 = t 0) (e1 : s1 = t 1) (e2 : s2 = t 2) (e3 : s3 = t 3) {o0 o1 o2 t0 t1 t2 t3 : Fin 2 → ℕ}
    (h0 : o0 = ![1024 * ((c.val + 1 + (0 : Fin 3).val) % 4), 0]) (h1 : o1 = ![1024 * ((c.val + 1 + (1 : Fin 3).val) % 4), 0]) (h2 : o2 = ![1024 * ((c.val + 1 + (2 : Fin 3).val) % 4), 0])
    (g0 : t0 = ![1024 * c.val, 128 * (0 : Fin 4).val]) (g1 : t1 = ![1024 * c.val, 128 * (1 : Fin 4).val])
    (g2 : t2 = ![1024 * c.val, 128 * (2 : Fin 4).val]) (g3 : t3 = ![1024 * c.val, 128 * (3 : Fin 4).val])
    (i0 : ∀ a, o0 a + S1024x512.size a ≤ S4096x512.size a) (i1 : ∀ a, o1 a + S1024x512.size a ≤ S4096x512.size a) (i2 : ∀ a, o2 a + S1024x512.size a ≤ S4096x512.size a)
    (j0 : ∀ a, t0 a + S1024x128.size a ≤ S4096x512.size a) (j1 : ∀ a, t1 a + S1024x128.size a ≤ S4096x512.size a)
    (j2 : ∀ a, t2 a + S1024x128.size a ≤ S4096x512.size a) (j3 : ∀ a, t3 a + S1024x128.size a ≤ S4096x512.size a) :
    oM.view.writes (Elt F) fo
      [(⟨Rect.unit o0 S1024x512.size i0, v0⟩ : View.Piece (Elt F) S4096x512 .f32), ⟨Rect.unit o1 S1024x512.size i1, v1⟩, ⟨Rect.unit o2 S1024x512.size i2, v2⟩,
       ⟨Rect.unit t3 S1024x128.size j3, s3⟩, ⟨Rect.unit t2 S1024x128.size j2, s2⟩, ⟨Rect.unit t1 S1024x128.size j1, s1⟩, ⟨Rect.unit t0 S1024x128.size j0, s0⟩]
      = outv c u t := by
  subst f0 f1 f2 e0 e1 e2 e3; exact out_at c fo u t h0 h1 h2 g0 g1 g2 g3 i0 i1 i2 j0 j1 j2 j3

end Cert.AllToAll

end
-- ==== Proof.Body.lean ====
module

public import proofs.«01_k».proof.Proof.Common
public import proofs.«01_k».proof.Proof.Values
public import Idealize.ShloMosaic.Lib.Ring

@[expose] public section

noncomputable section

namespace Cert.AllToAll

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Y : Blocks (F := F)) (K : Dev nD × Fin 7 → ℕ)

/-- The invariants device `c`'s body opens: its own seven cells', the three other devices' barrier cells', and the receive
    cells' its three copies pay. -/
def invs (c : Dev nD) : sProp 𝕄 :=
  iprop(cellInv ER (rd Y) (K (c, 0)) (barCell c)
    ∗ (cellInv ER (rd Y) (K (c, sk 0)) (sendCell c 0) ∗ cellInv ER (rd Y) (K (c, sk 1)) (sendCell c 1) ∗ cellInv ER (rd Y) (K (c, sk 2)) (sendCell c 2))
    ∗ (cellInv ER (rd Y) (K (c, rk 0)) (recvCell c 0) ∗ cellInv ER (rd Y) (K (c, rk 1)) (recvCell c 1) ∗ cellInv ER (rd Y) (K (c, rk 2)) (recvCell c 2))
    ∗ (cellInv ER (rd Y) (K (peer c 0, 0)) (barCell (peer c 0)) ∗ cellInv ER (rd Y) (K (peer c 1, 0)) (barCell (peer c 1)) ∗ cellInv ER (rd Y) (K (peer c 2, 0)) (barCell (peer c 2)))
    ∗ (cellInv ER (rd Y) (K (peer c 0, rk 2)) (recvCell (peer c 0) 2) ∗ cellInv ER (rd Y) (K (peer c 1, rk 1)) (recvCell (peer c 1) 1) ∗ cellInv ER (rd Y) (K (peer c 2, rk 0)) (recvCell (peer c 2) 0)))

omit [FloatOps F] in
instance invs_persistent (c : Dev nD) : BI.Persistent (invs Y K c) := by unfold invs; infer_instance

/-- The reached-marks of the cells it pays and of its own receive cells. -/
def marks (c : Dev nD) : sProp 𝕄 :=
  iprop((reached ER (barCell (peer c 0)) 0 ∗ reached ER (barCell (peer c 1)) 0 ∗ reached ER (barCell (peer c 2)) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

omit [FloatOps F] in
instance marks_persistent (c : Dev nD) : BI.Persistent (marks (F := F) c) := by unfold marks; infer_instance

/-- Its positions at round 0 of its own seven cells. -/
def places (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))

/-- The nine tokens of the duties it pays. -/
def payToks (c : Dev nD) : sProp 𝕄 :=
  iprop((dutyTok ER (barCell (peer c 0)) 0 0 ∗ dutyTok ER (barCell (peer c 1)) 0 1 ∗ dutyTok ER (barCell (peer c 2)) 0 2)
    ∗ (dutyTok ER (sendCell c 0) 0 0 ∗ dutyTok ER (sendCell c 1) 0 0 ∗ dutyTok ER (sendCell c 2) 0 0)
    ∗ (dutyTok ER (recvCell (peer c 0) 2) 0 0 ∗ dutyTok ER (recvCell (peer c 1) 1) 0 0 ∗ dutyTok ER (recvCell (peer c 2) 0) 0 0))

def ghost (c : Dev nD) : sProp 𝕄 := iprop(invs Y K c ∗ marks c ∗ places c ∗ payToks c)

/-- The credits it waits with that others pay. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

abbrev pts (c : Dev nD) {sp : Space} {sh : Shape} {e : EltTy} (M : Memref sig .tc sp sh e) (f : Buf (Elt F) (M.view.loc (c : Thread nD τ))) : sProp 𝕄 :=
  M.view.loc (c : Thread nD τ) ↦{fullShare} f
abbrev ySl (c : Dev nD) (j : Fin 3) (f : SlabBuf (F := F) c yM j) : sProp 𝕄 :=
  (slabOf yM j).view.loc (c : Thread nD τ) ↦[(slabOf yM j).view.set]{fullShare} f
abbrev rSl (c : Dev nD) (j : Fin 3) (f : SlabBuf (F := F) c rM j) : sProp 𝕄 :=
  (slabOf rM j).view.loc (c : Thread nD τ) ↦[(slabOf rM j).view.set]{fullShare} f
abbrev wqPts (c : Dev nD) (q : PosShare TreeShare) (f : Buf (Elt F) (wM.view.loc (c : Thread nD τ))) : sProp 𝕄 := wM.view.loc (c : Thread nD τ) ↦{q} f
abbrev wPts (c : Dev nD) (j : Fin 2) (f : Buf (Elt F) ((wslot j).view.loc (c : Thread nD τ))) : sProp 𝕄 :=
  (wslot j).view.loc (c : Thread nD τ) ↦[(wslot j).view.set]{fullShare} f

omit [FloatOps F] in
/-- What a whole round of a receive cell hands over, the landing slab spelt as the body's accesses spell it. -/
theorem recv_round (c : Dev nD) (j : Fin 3) :
    bigSep ((rd (F := F) Y).duties (recvCell c j) 0) (fun d => (rd (F := F) Y).payload (recvCell c j) 0 d)
      ⊢ iprop(∃ f, rSl c j f ∗ ⌜(slabOf rM j).view.read (Elt F) f = Y (peer c j) (Fin.rev j)⌝) := by
  rw [duties_recv, bigSep_singleton, payload_recv]; unfold recvPay rPts; exact BI.Entails.refl _
omit [FloatOps F] in
theorem send_round (c : Dev nD) (b : Fin 3) :
    bigSep ((rd (F := F) Y).duties (sendCell c b) 0) (fun d => (rd (F := F) Y).payload (sendCell c b) 0 d) ⊢ iprop(∃ f, ySl (F := F) c b f) := by
  rw [duties_send, bigSep_singleton, payload_send]; unfold sendPay yPts; exact BI.Entails.refl _

omit [FloatOps F] in
theorem pts_out (c : Dev nD) {f : (cc0_stg3_0 : Ref sig .tc).ty.Contents (Elt F)} (out : (cc0_stg3_0 : Ref sig .tc).ty.Contents (Elt F)) (h : f = out) :
    (pts (F := F) c oM f : sProp 𝕄) ⊢ pts c oM out := by
  subst h; exact BI.Entails.refl _

set_option maxHeartbeats 1000000 in
/-- Device `c`'s copy of its block `b` to `peer c b`, into slab `2 - b` of that device's landing buffer (owned by `c` since
    the barrier): from the block's slab, the landing slab, the two duties' tokens and the obligation to have sent it; the
    slab's contents are the block's, so what lands is. -/
theorem wp_send_slab (c n : Dev nD) (b : Fin 3) (hn : n = peer c b)
    {hsc : (slabOf rM (Fin.rev b) : Memref sig (Dev.tc n : Thread nD τ).2.kind .vmem S1024x512 .bf16).view.ref.isScScratch = false}
    {hsrc : (slabOf yM b).view.WordExact} {hdst : (slabOf rM (Fin.rev b)).view.WordExact}
    {hsem : DmaTarget.Typed .vmem (.dma (recvS (Fin.rev b))) (.remote (Dev.tc n : Thread nD τ) (slabOf rM (Fin.rev b)) (.dma (sendS b)) hsc)}
    {α : Type} {Q : α → sProp 𝕄} {k : PUnit → Prog (TpuEff nD τ sig (Elt F) Λ₀ .tc) α}
    (f : SlabBuf c yM b) (fn : SlabBuf (peer c b) rM (Fin.rev b)) {O₁ : CellTallies nD τ sig Unit} (O : CellTallies nD τ sig Unit)
    (hO : O₁ = O + tallyAt (recvCell (peer c b) (Fin.rev b)) () N) (W : Waits sig Unit)
    (hv : (slabOf yM b).view.read (Elt F) f = Y c b) :
    iprop(cellInv ER (rd Y) (K (c, sk b)) (sendCell c b) ∗ cellInv ER (rd Y) (K (peer c b, rk (Fin.rev b))) (recvCell (peer c b) (Fin.rev b))
        ∗ ySl c b f ∗ rPts (peer c b) (Fin.rev b) fn
        ∗ owes (c : Thread nD τ) O₁ W
        ∗ dutyTok ER (sendCell c b) 0 0 ∗ reached ER (sendCell c b) 0
        ∗ dutyTok ER (recvCell (peer c b) (Fin.rev b)) 0 0 ∗ reached ER (recvCell (peer c b) (Fin.rev b)) 0)
      ⊢ iprop(((cred (tallyAt (sendCell c b) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slabOf yM b) (.remote (Dev.tc n : Thread nD τ) (slabOf rM (Fin.rev b)) (.dma (sendS b)) hsc) (.dma (recvS (Fin.rev b))) hsrc hdst hsem) k) Q) := by
  subst hn
  unfold rPts
  exact Rounds.wp_send_pointsTo 𝒱₀ ER (rd Y) (c : Thread nD τ) none (κ₁ := K (c, sk b)) (κ₂ := K (peer c b, rk (Fin.rev b)))
    (r₁ := 0) (r₂ := 0) (d₁ := 0) (d₂ := 0) (fd := fn)
    (by rw [duties_send]; exact Finset.mem_singleton_self _) (by rw [duties_recv]; exact Finset.mem_singleton_self _)
    () () N (by fin_cases b <;> rfl) (amount_send Y c b 0) (amount_recv Y (peer c b) (Fin.rev b) 0) O hO (W := W)
    (by rw [payload_send]; unfold sendPay yPts; iintro H; iexists f; iexact H)
    (by
      rw [payload_recv]; unfold recvPay rPts; rw [peer_peer, Fin.rev_rev, hv]
      iintro H; iexists _; isplitl [H]; · iexact H
      ipureintro; exact View.read_write_univ _ _)

/-- What a run of the body leaves: nothing owed, its cells at zero, the windows' buffers and the second matrix as they
    were but for the result, which holds `out`, and the scratch buffers at something. -/
def done (c : Dev nD) (fsx : (cc0_stg0_0 : Ref sig .tc).ty.Contents (Elt F)) (fsw : (cc0_stg1_0 : Ref sig .tc).ty.Contents (Elt F))
    (fx : (cc0_stg2_0 : Ref sig .tc).ty.Contents (Elt F)) (fw : (main_arg1 : Ref sig .tc).ty.Contents (Elt F))
    (out : (cc0_stg3_0 : Ref sig .tc).ty.Contents (Elt F)) : sProp 𝕄 :=
  iprop((∃ W : Waits sig Unit, owes (c : Thread nD τ) 0 W)
    ∗ semVal (barCell c) 0
    ∗ (semVal (wCell c 4) 0 ∗ semVal (wCell c 5) 0)
    ∗ (semVal (sendCell c 0) 0 ∗ semVal (sendCell c 1) 0 ∗ semVal (sendCell c 2) 0)
    ∗ (semVal (recvCell c 0) 0 ∗ semVal (recvCell c 1) 0 ∗ semVal (recvCell c 2) 0)
    ∗ pts c sxM fsx ∗ pts c swM fsw ∗ pts c xM fx ∗ wqPts c fullShare.left fw ∗ wqPts c fullShare.right fw ∗ pts c oM out
    ∗ (∃ f, pts c x8M f) ∗ ((∃ f, wPts c 0 f) ∗ (∃ f, wPts c 1 f)) ∗ (∃ f, pts c w8M f)
    ∗ ((∃ f, ySl c 0 f) ∗ (∃ f, ySl c 1 f) ∗ (∃ f, ySl c 2 f))
    ∗ ((∃ f, rSl c 0 f) ∗ (∃ f, rSl c 1 f) ∗ (∃ f, rSl c 2 f)))

set_option maxHeartbeats 4000000 in
/-- Device `c`'s run of the body, executed symbolically: its blocks `Y c` are the ones the second matrix gives, and what it
    leaves as the result is the block it keeps beside the blocks it received. -/
theorem run0 (c : Dev nD) (W : Waits sig Unit)
    (fsx : (cc0_stg0_0 : Ref sig .tc).ty.Contents (Elt F)) (fsw : (cc0_stg1_0 : Ref sig .tc).ty.Contents (Elt F))
    (fx : (cc0_stg2_0 : Ref sig .tc).ty.Contents (Elt F)) (fw : (main_arg1 : Ref sig .tc).ty.Contents (Elt F))
    (fo : (cc0_stg3_0 : Ref sig .tc).ty.Contents (Elt F))
    (hY : ∀ b, Y c b = blk fsx fsw fx fw c b) (Kt : PUnit → sProp 𝕄) :
    iprop((done c fsx fsw fx fw (outv c (fun j => extf .f32 (Y (peer c j) (Fin.rev j) : FVec F S1024x512 .bf16) bitsLt_bf16_f32) (ochunk fsx fsw fx fw c)) -∗ Kt ⟨⟩)
        ∗ (ghost Y K c ∗ credits c ∗ levAts L lv)
        ∗ owes (c : Thread nD τ) (O₀ c) W
        ∗ semVal (wCell c 4) 0 ∗ semVal (wCell c 5) 0
        ∗ pts c sxM fsx ∗ pts c swM fsw ∗ pts c xM fx ∗ wqPts c fullShare.left fw ∗ wqPts c fullShare.right fw ∗ pts c oM fo
        ∗ (∃ f, pts c x8M f) ∗ (∃ f, wPts c 0 f) ∗ (∃ f, wPts c 1 f) ∗ (∃ f, pts c w8M f)
        ∗ (∃ f, ySl c 0 f) ∗ (∃ f, ySl c 1 f) ∗ (∃ f, ySl c 2 f)
        ∗ (∃ f, rPts c 0 f) ∗ (∃ f, rPts c 1 f) ∗ (∃ f, rPts c 2 f))
      ⊢ wp frame (wpE (defs₀ (F := F)) 𝒱₀ (c : Thread nD τ) none) Set.univ
          (cc0__body sxM (Memref.isWhole_whole _) swM (Memref.isWhole_whole _) xM (Memref.isWhole_whole _) wM (Memref.isWhole_whole _)
            oM (Memref.isWhole_whole _) x8M (Memref.isWhole_whole _) wfM (Memref.isWhole_whole _) w8M (Memref.isWhole_whole _)
            yM (Memref.isWhole_whole _) rM (Memref.isWhole_whole _) cc0_scratch5 cc0_scratch6 cc0_scratch7) Kt := by
  simp only [cc0__body_eq_skeleton]; unfold cc0__body_skel
  simp only [k0_part27_eq_skeleton]; unfold k0_part27_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold ghost invs marks places payToks credits
  iintro ⟨Hk, ⟨⟨⟨#IB, ⟨#IS0, #IS1, #IS2⟩, ⟨#IR0, #IR1, #IR2⟩, ⟨#IBp0, #IBp1, #IBp2⟩, ⟨#IRp0, #IRp1, #IRp2⟩⟩,
      ⟨⟨#MB0, #MB1, #MB2⟩, ⟨#MS0, #MS1, #MS2⟩, ⟨#MR0, #MR1, #MR2⟩⟩,
      ⟨AB, ⟨AS0, AS1, AS2⟩, ⟨AR0, AR1, AR2⟩⟩,
      ⟨⟨TB0, TB1, TB2⟩, ⟨TS0, TS1, TS2⟩, ⟨TR0, TR1, TR2⟩⟩⟩, ⟨CB, CR0, CR1, CR2⟩, #Hlev⟩,
    HO, Q0, Q1, Hsx, Hsw, Hx, Hwa, Hwb, Ho, ⟨%f8, Hx8⟩, ⟨%fw0, Hw0⟩, ⟨%fw1, Hw1⟩, ⟨%fw8, Hw8⟩, ⟨%fy0, Hy0⟩, ⟨%fy1, Hy1⟩, ⟨%fy2, Hy2⟩, ⟨%fr0, Hr0⟩, ⟨%fr1, Hr1⟩, ⟨%fr2, Hr2⟩⟩
  simp only [dev1_eq c, dev2_eq c, dev3_eq c]
  -- the three signals
  iapply (Rounds.wp_signal 𝒱₀ ER (rd Y) (c : Thread nD τ) none (dst := (peer c 0 : Thread nD τ)) (κ := K (peer c 0, 0))
      (d := 0) (by rw [duties_bar]; exact Finset.mem_univ _) ((amount_bar Y (peer c 0) 0).trans (by decide)) () (Os1 c) rfl)
    $$ [HO TB0 Hr0]
  · isplitr; · iexact IBp0
    isplitl [HO]; · iexact HO
    isplitl [TB0]; · iexact TB0
    isplitl [Hr0]
    · rw [payload_bar]; unfold barPay; rw [peer_peer]
      isplitl [Hr0]; · iexists fr0; iexact Hr0
      iexact MR0
    iexact MB0
  iintro HO
  unfold Os1
  iapply (Rounds.wp_signal 𝒱₀ ER (rd Y) (c : Thread nD τ) none (dst := (peer c 1 : Thread nD τ)) (κ := K (peer c 1, 0))
      (d := 1) (by rw [duties_bar]; exact Finset.mem_univ _) ((amount_bar Y (peer c 1) 1).trans (by decide)) () (Os2 c) rfl)
    $$ [HO TB1 Hr1]
  · isplitr; · iexact IBp1
    isplitl [HO]; · iexact HO
    isplitl [TB1]; · iexact TB1
    isplitl [Hr1]
    · rw [payload_bar]; unfold barPay; rw [peer_peer]
      isplitl [Hr1]; · iexists fr1; iexact Hr1
      iexact MR1
    iexact MB1
  iintro HO
  unfold Os2
  iapply (Rounds.wp_signal 𝒱₀ ER (rd Y) (c : Thread nD τ) none (dst := (peer c 2 : Thread nD τ)) (κ := K (peer c 2, 0))
      (d := 2) (by rw [duties_bar]; exact Finset.mem_univ _) ((amount_bar Y (peer c 2) 2).trans (by decide)) () (Ob0 c) rfl)
    $$ [HO TB2 Hr2]
  · isplitr; · iexact IBp2
    isplitl [HO]; · iexact HO
    isplitl [TB2]; · iexact TB2
    isplitl [Hr2]
    · rw [payload_bar]; unfold barPay; rw [peer_peer]
      isplitl [Hr2]; · iexists fr2; iexact Hr2
      iexact MR2
    iexact MB2
  iintro HO
  -- the wait for the other three's
  iapply (Rounds.wp_wait_rest_token 𝒱₀ ER (rd Y) (c : Thread nD τ) none (κ := K (c, 0))
      (wpE_semWait_eq 𝒱₀ (c : Thread nD τ) none Set.univ) (Set.mem_univ _) () (O := Ob0 c) (W := W) (R := 0) (m := 0) (T := ∅)
      (by rw [expect_bar]; decide)) $$ [CB HO AB]
  · isplitr; · iexact IB
    isplitl [CB]; · iexact CB
    isplitl [HO]; · iexact HO
    isplitr; · iapply (mayWait_bar c); iexact Hlev
    iexact AB
  iintro ⟨HO, AB, -, Hpay⟩
  ihave Hp := (Entails.of_eq (rest_bar Y c)) $$ Hpay
  unfold barPay
  icases Hp with ⟨⟨⟨%fn0, Hn0⟩, #MRn0⟩, ⟨⟨%fn1, Hn1⟩, #MRn1⟩, ⟨⟨%fn2, Hn2⟩, #MRn2⟩⟩
  have HM4 : ∀ O, (O = O₀ c ∨ O = Ob0 c ∨ O = Ob1 c ∨ O = Ob2 c ∨ O = 0) → ((levAts L lv : sProp 𝕄) ⊢ MayWait (c : Thread nD τ) (.dma (⟨4, by decide⟩ : DmaSem sig)) default O) :=
    fun O hO => mayWait_stage c 4 (by decide) O hO
  have HM5 : ∀ O, (O = O₀ c ∨ O = Ob0 c ∨ O = Ob1 c ∨ O = Ob2 c ∨ O = 0) → ((levAts L lv : sProp 𝕄) ⊢ MayWait (c : Thread nD τ) (.dma (⟨5, by decide⟩ : DmaSem sig)) default O) :=
    fun O hO => mayWait_stage c 5 (by decide) O hO
  have HOb0 := HM4 (Ob0 c) (.inr (.inl rfl))
  have HOb0' := HM5 (Ob0 c) (.inr (.inl rfl))
  have HOb1 := HM4 (Ob1 c) (.inr (.inr (.inl rfl)))
  have HOb1' := HM5 (Ob1 c) (.inr (.inr (.inl rfl)))
  have HOb2 := HM4 (Ob2 c) (.inr (.inr (.inr (.inl rfl))))
  have HOb2' := HM5 (Ob2 c) (.inr (.inr (.inr (.inl rfl))))
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  sl_exec
  -- block 0 to the next device
  iapply (wp_send_slab Y K c _ 0 (dev4_eq c) _ fn2 (Ob1 c) rfl _ ?hv0) $$ [Hy0 Hn2 HO TS0 TR0]
  rotate_left
  · isplitr; · iexact IS0
    isplitr; · iexact IRp0
    isplitl [Hy0]; · iexact Hy0
    isplitl [Hn2]; · iexact Hn2
    isplitl [HO]; · iexact HO
    isplitl [TS0]; · iexact TS0
    isplitr; · iexact MS0
    isplitl [TR0]; · iexact TR0
    iexact MRn2
  case hv0 =>
    rw [hY 0]
    refine slab_blk' 0 fy0 (ychunk fsx fsw fx fw c 0) ?_ ?_ ?_ ?_
    · exact congrArg₂ (k0_pay4 _) (xq_at fx) (wq_at 0 c 0 0 fw _ (off1_eq c 0 0) _ _ _ _)
    · exact congrArg₂ (k0_pay6 _) (xq_at fx) (wq_at 1 c 0 1 fw _ (off1_eq c 0 1) _ _ _ _)
    · exact congrArg₂ (k0_pay8 _) (xq_at fx) (wq_at 0 c 0 2 fw _ (off1_eq c 0 2) _ _ _ _)
    · exact congrArg₂ (k0_pay10 _) (xq_at fx) (wq_at 1 c 0 3 fw _ (off1_eq c 0 3) _ _ _ _)
  iintro ⟨CS0, HO⟩
  sl_exec
  -- block 1 to the device 2 places on
  iapply (wp_send_slab Y K c _ 1 (dev5_eq c) _ fn1 (Ob2 c) rfl _ ?hv1) $$ [Hy1 Hn1 HO TS1 TR1]
  rotate_left
  · isplitr; · iexact IS1
    isplitr; · iexact IRp1
    isplitl [Hy1]; · iexact Hy1
    isplitl [Hn1]; · iexact Hn1
    isplitl [HO]; · iexact HO
    isplitl [TS1]; · iexact TS1
    isplitr; · iexact MS1
    isplitl [TR1]; · iexact TR1
    iexact MRn1
  case hv1 =>
    rw [hY 1]
    refine slab_blk' 1 fy1 (ychunk fsx fsw fx fw c 1) ?_ ?_ ?_ ?_
    · exact congrArg₂ (k0_pay12 _) (xq_at fx) (wq_at 0 c 1 0 fw _ (off1_eq c 1 0) _ _ _ _)
    · exact congrArg₂ (k0_pay14 _) (xq_at fx) (wq_at 1 c 1 1 fw _ (off1_eq c 1 1) _ _ _ _)
    · exact congrArg₂ (k0_pay16 _) (xq_at fx) (wq_at 0 c 1 2 fw _ (off1_eq c 1 2) _ _ _ _)
    · exact congrArg₂ (k0_pay18 _) (xq_at fx) (wq_at 1 c 1 3 fw _ (off1_eq c 1 3) _ _ _ _)
  iintro ⟨CS1, HO⟩
  sl_exec
  -- block 2 to the device 3 places on
  iapply (wp_send_slab Y K c _ 2 (dev6_eq c) _ fn0 (0) (by rw [zero_add]) _ ?hv2) $$ [Hy2 Hn0 HO TS2 TR2]
  rotate_left
  · isplitr; · iexact IS2
    isplitr; · iexact IRp2
    isplitl [Hy2]; · iexact Hy2
    isplitl [Hn0]; · iexact Hn0
    isplitl [HO]; · iexact HO
    isplitl [TS2]; · iexact TS2
    isplitr; · iexact MS2
    isplitl [TR2]; · iexact TR2
    iexact MRn0
  case hv2 =>
    rw [hY 2]
    refine slab_blk' 2 fy2 (ychunk fsx fsw fx fw c 2) ?_ ?_ ?_ ?_
    · exact congrArg₂ (k0_pay20 _) (xq_at fx) (wq_at 0 c 2 0 fw _ (off1_eq c 2 0) _ _ _ _)
    · exact congrArg₂ (k0_pay22 _) (xq_at fx) (wq_at 1 c 2 1 fw _ (off1_eq c 2 1) _ _ _ _)
    · exact congrArg₂ (k0_pay24 _) (xq_at fx) (wq_at 0 c 2 2 fw _ (off1_eq c 2 2) _ _ _ _)
    · exact congrArg₂ (k0_pay26 _) (xq_at fx) (wq_at 1 c 2 3 fw _ (off1_eq c 2 3) _ _ _ _)
  iintro ⟨CS2, HO⟩
  sl_exec
  ihave Hp := (recv_round Y c 2) $$ AR2_pay1
  icases Hp with ⟨%g2, Hr2, %hg2⟩
  sl_exec
  ihave Hp := (recv_round Y c 1) $$ AR1_pay1
  icases Hp with ⟨%g1, Hr1, %hg1⟩
  sl_exec
  ihave Hp := (recv_round Y c 0) $$ AR0_pay1
  icases Hp with ⟨%g0, Hr0, %hg0⟩
  sl_exec
  -- the result's contents
  ihave Ho := (pts_out c (outv c (fun j => extf .f32 (Y (peer c j) (Fin.rev j) : FVec F S1024x512 .bf16) bitsLt_bf16_f32) (ochunk fsx fsw fx fw c)) ?hout) $$ Ho
  rotate_left
  case hout =>
    refine out_at' c fo _ _ ?_ ?_ ?_ ?_ ?_ ?_ ?_ (off7_eq c 0) (off7_eq c 1) (off7_eq c 2) (off3_eq c) (off4_eq c) (off5_eq c) (off6_eq c) _ _ _ _ _ _ _
    · exact recv_at 0 g0 _ hg0
    · exact recv_at 1 g1 _ hg1
    · exact recv_at 2 g2 _ hg2
    · exact congrArg₂ (k0_pay28 _) (xq_at fx) (wq_at 0 c 3 0 fw _ (off2_eq c 0) _ _ _ _)
    · exact congrArg₂ (k0_pay30 _) (xq_at fx) (wq_at 1 c 3 1 fw _ (off2_eq c 1) _ _ _ _)
    · exact congrArg₂ (k0_pay32 _) (xq_at fx) (wq_at 0 c 3 2 fw _ (off2_eq c 2) _ _ _ _)
    · exact congrArg₂ (k0_pay34 _) (xq_at fx) (wq_at 1 c 3 3 fw _ (off2_eq c 3) _ _ _ _)
  -- the cells close
  imod (Rounds.cell_close ER (rd Y) (Set.mem_univ (K (c, 0))) (fun h => h) (R := 0 + 1) (duties_later Y (barCell c))) $$ [AB] with ZB
  · isplitr; · iexact IB
    iexact AB
  imod (Rounds.cell_close ER (rd Y) (Set.mem_univ (K (c, sk 0))) (fun h => h) (R := 1) (duties_later Y (sendCell c 0))) $$ [AS0] with ZS0
  · isplitr; · iexact IS0
    iexact AS0
  imod (Rounds.cell_close ER (rd Y) (Set.mem_univ (K (c, sk 1))) (fun h => h) (R := 1) (duties_later Y (sendCell c 1))) $$ [AS1] with ZS1
  · isplitr; · iexact IS1
    iexact AS1
  imod (Rounds.cell_close ER (rd Y) (Set.mem_univ (K (c, sk 2))) (fun h => h) (R := 1) (duties_later Y (sendCell c 2))) $$ [AS2] with ZS2
  · isplitr; · iexact IS2
    iexact AS2
  imod (Rounds.cell_close ER (rd Y) (Set.mem_univ (K (c, rk 0))) (fun h => h) (R := 1) (duties_later Y (recvCell c 0))) $$ [AR0] with ZR0
  · isplitr; · iexact IR0
    iexact AR0
  imod (Rounds.cell_close ER (rd Y) (Set.mem_univ (K (c, rk 1))) (fun h => h) (R := 1) (duties_later Y (recvCell c 1))) $$ [AR1] with ZR1
  · isplitr; · iexact IR1
    iexact AR1
  imod (Rounds.cell_close ER (rd Y) (Set.mem_univ (K (c, rk 2))) (fun h => h) (R := 1) (duties_later Y (recvCell c 2))) $$ [AR2] with ZR2
  · isplitr; · iexact IR2
    iexact AR2
  rw [wp_ret]; imodintro
  iapply Hk
  unfold done
  isplitl [HO]; · iexists _; iexact HO
  isplitl [ZB]; · iexact ZB
  isplitl [Q0 Q1]
  · isplitl [Q0]; · iexact Q0
    iexact Q1
  isplitl [ZS0 ZS1 ZS2]
  · isplitl [ZS0]; · iexact ZS0
    isplitl [ZS1]; · iexact ZS1
    iexact ZS2
  isplitl [ZR0 ZR1 ZR2]
  · isplitl [ZR0]; · iexact ZR0
    isplitl [ZR1]; · iexact ZR1
    iexact ZR2
  isplitl [Hsx]; · iexact Hsx
  isplitl [Hsw]; · iexact Hsw
  isplitl [Hx]; · iexact Hx
  isplitl [Hwa]; · iexact Hwa
  isplitl [Hwb]; · iexact Hwb
  isplitl [Ho]; · iexact Ho
  isplitl [Hx8]; · iexists _; iexact Hx8
  isplitl [Hw0 Hw1]
  · isplitl [Hw0]; · iexists _; iexact Hw0
    iexists _; iexact Hw1
  isplitl [Hw8]; · iexists _; iexact Hw8
  isplitl [AS0_pay1 AS1_pay1 AS2_pay1]
  · isplitl [AS0_pay1]; · iapply (send_round Y c 0); iexact AS0_pay1
    isplitl [AS1_pay1]; · iapply (send_round Y c 1); iexact AS1_pay1
    iapply (send_round Y c 2); iexact AS2_pay1
  isplitl [Hr0]; · iexists _; iexact Hr0
  isplitl [Hr1]; · iexists _; iexact Hr1
  iexists _; iexact Hr2

end Cert.AllToAll

end
-- ==== Proof.Run.lean ====
/-
# `Run`: the launch on the four devices

The body's run (`Body.run0`) put under the launch theorem: the three buffers used slab by slab cut into their slabs and
put together again, the pipeline's proof data, the protocol's ghost state made and dealt to the devices, and the run of
`@main` from any memory with zero counters, over any float values `F`: it ends, every device's result holds `outAt`,
the arguments are unchanged and every semaphore counter is zero.
-/
module

public import proofs.«01_k».proof.Proof.Body
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The buffers used slab by slab -/

abbrev slabSet (j : Fin 3) : Finset S3x1024x512.Idx := (Rect.unit (s := S3x1024x512) ![j.val, 0, 0] S1x1024x512.size (inb_slab j)).set
abbrev slotSet (j : Fin 2) : Finset S2x4096x128.Idx := (Rect.unit (s := S2x4096x128) ![j.val, 0, 0] S1x4096x128.size (inb_wslot j)).set

theorem ySlab_set (j : Fin 3) : (slabOf yM j).view.set = slabSet j := by
  simp only [slabOf, Memref.view_squeeze, View.set_reshape]; exact View.set_slice_whole _ _
theorem rSlab_set (j : Fin 3) : (slabOf rM j).view.set = slabSet j := by
  simp only [slabOf, Memref.view_squeeze, View.set_reshape]; exact View.set_slice_whole _ _
theorem wslot_set (j : Fin 2) : (wslot j).view.set = slotSet j := by
  simp only [wslot, Memref.view_squeeze, View.set_reshape]; exact View.set_slice_whole _ _

theorem slabs_disjoint (j j' : Fin 3) (hj : j ≠ j') : Disjoint (slabSet j) (slabSet j') :=
  Ring.lead_disjoint (s := S3x1024x512) (0 : Fin 3) 1 (fun j : Fin 3 => (![j.val, 0, 0] : Fin 3 → Nat)) S1x1024x512.size inb_slab (fun j => by simp) rfl j j' hj
theorem slabs_cover : Finset.univ.biUnion slabSet = Finset.univ :=
  Ring.lead_cover (s := S3x1024x512) (0 : Fin 3) 1 (fun j : Fin 3 => (![j.val, 0, 0] : Fin 3 → Nat)) S1x1024x512.size inb_slab (fun j => by simp)
    (fun j a ha => by fin_cases a <;> first | exact absurd rfl ha | rfl) rfl (fun a ha => by fin_cases a <;> first | exact absurd rfl ha | rfl) rfl
theorem slots_disjoint (j j' : Fin 2) (hj : j ≠ j') : Disjoint (slotSet j) (slotSet j') :=
  Ring.lead_disjoint (s := S2x4096x128) (0 : Fin 3) 1 (fun j : Fin 2 => (![j.val, 0, 0] : Fin 3 → Nat)) S1x4096x128.size inb_wslot (fun j => by simp) rfl j j' hj
theorem slots_cover : Finset.univ.biUnion slotSet = Finset.univ :=
  Ring.lead_cover (s := S2x4096x128) (0 : Fin 3) 1 (fun j : Fin 2 => (![j.val, 0, 0] : Fin 3 → Nat)) S1x4096x128.size inb_wslot (fun j => by simp)
    (fun j a ha => by fin_cases a <;> first | exact absurd rfl ha | rfl) rfl (fun a ha => by fin_cases a <;> first | exact absurd rfl ha | rfl) rfl

section Slots
variable (c : Dev nD)

omit [FloatOps F] in
theorem ySl_eq (j : Fin 3) (f) : ySl (F := F) c j f = (yM.view.loc (c : Thread nD τ) ↦[slabSet j]{fullShare} f : sProp 𝕄) := by
  unfold ySl; rw [ySlab_set]
omit [FloatOps F] in
theorem rSl_eq (j : Fin 3) (f) : rSl (F := F) c j f = (rM.view.loc (c : Thread nD τ) ↦[slabSet j]{fullShare} f : sProp 𝕄) := by
  unfold rSl; rw [rSlab_set]
omit [FloatOps F] in
theorem wPts_eq (j : Fin 2) (f) : wPts (F := F) c j f = (wfM.view.loc (c : Thread nD τ) ↦[slotSet j]{fullShare} f : sProp 𝕄) := by
  unfold wPts; rw [wslot_set]

omit [FloatOps F] in
theorem y_in : iprop(∃ f, pts c yM f) ⊢ (iprop((∃ f, ySl c 0 f) ∗ (∃ f, ySl c 1 f) ∗ ∃ f, ySl c 2 f) : sProp 𝕄) :=
  Ring.slots3_split (U := UU) (ℓ := yM.view.loc (c : Thread nD τ)) (q := fullShare) slabSet slabs_disjoint slabs_cover
    (ySl c 0) (ySl c 1) (ySl c 2) (ySl_eq c 0) (ySl_eq c 1) (ySl_eq c 2)
omit [FloatOps F] in
theorem y_out : (iprop((∃ f, ySl c 0 f) ∗ (∃ f, ySl c 1 f) ∗ ∃ f, ySl c 2 f) : sProp 𝕄) ⊢ iprop(∃ f, pts c yM f) :=
  Ring.slots3_join (U := UU) (ℓ := yM.view.loc (c : Thread nD τ)) (q := fullShare) slabSet slabs_disjoint slabs_cover
    (ySl c 0) (ySl c 1) (ySl c 2) (ySl_eq c 0) (ySl_eq c 1) (ySl_eq c 2)
omit [FloatOps F] in
theorem r_in : iprop(∃ f, pts c rM f) ⊢ (iprop((∃ f, rSl c 0 f) ∗ (∃ f, rSl c 1 f) ∗ ∃ f, rSl c 2 f) : sProp 𝕄) :=
  Ring.slots3_split (U := UU) (ℓ := rM.view.loc (c : Thread nD τ)) (q := fullShare) slabSet slabs_disjoint slabs_cover
    (rSl c 0) (rSl c 1) (rSl c 2) (rSl_eq c 0) (rSl_eq c 1) (rSl_eq c 2)
omit [FloatOps F] in
theorem r_out : (iprop((∃ f, rSl c 0 f) ∗ (∃ f, rSl c 1 f) ∗ ∃ f, rSl c 2 f) : sProp 𝕄) ⊢ iprop(∃ f, pts c rM f) :=
  Ring.slots3_join (U := UU) (ℓ := rM.view.loc (c : Thread nD τ)) (q := fullShare) slabSet slabs_disjoint slabs_cover
    (rSl c 0) (rSl c 1) (rSl c 2) (rSl_eq c 0) (rSl_eq c 1) (rSl_eq c 2)
omit [FloatOps F] in
theorem w_in : iprop(∃ f, pts c wfM f) ⊢ (iprop((∃ f, wPts c 0 f) ∗ ∃ f, wPts c 1 f) : sProp 𝕄) :=
  Ring.slots2_split (U := UU) (ℓ := wfM.view.loc (c : Thread nD τ)) (q := fullShare) slotSet slots_disjoint slots_cover
    (wPts c 0) (wPts c 1) (wPts_eq c 0) (wPts_eq c 1)
omit [FloatOps F] in
theorem w_out : (iprop((∃ f, wPts c 0 f) ∗ ∃ f, wPts c 1 f) : sProp 𝕄) ⊢ iprop(∃ f, pts c wfM f) :=
  Ring.slots2_join (U := UU) (ℓ := wfM.view.loc (c : Thread nD τ)) (q := fullShare) slotSet slots_disjoint slots_cover
    (wPts c 0) (wPts c 1) (wPts_eq c 0) (wPts_eq c 1)

end Slots

/-! ## The pipeline's proof data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the pipeline stages on device `c`: the two scales and its rows of the first matrix; and the second matrix. -/
def sxg (c : Dev nD) : (cc0_stg0_0 : Ref sig .tc).ty.Contents (Elt F) := (win0_0.blk (0 : Fin 1)).view.read (Elt F) ((s₀ m ρ).mem ((c : Thread nD τ).loc main_arg2))
def swg (c : Dev nD) : (cc0_stg1_0 : Ref sig .tc).ty.Contents (Elt F) := (win0_1.blk (0 : Fin 1)).view.read (Elt F) ((s₀ m ρ).mem ((c : Thread nD τ).loc main_arg3))
def xg (c : Dev nD) : (cc0_stg2_0 : Ref sig .tc).ty.Contents (Elt F) := (win0_2.blk (0 : Fin 1)).view.read (Elt F) ((s₀ m ρ).mem ((c : Thread nD τ).loc main_arg0))
def fwg (c : Dev nD) : (main_arg1 : Ref sig .tc).ty.Contents (Elt F) := m ((c : Thread nD τ).loc main_arg1)

/-- The blocks the devices compute and send. -/
def Yb : Blocks (F := F) := fun c b => blk (sxg m ρ c) (swg m ρ c) (xg m ρ c) (fwg m c) c b
/-- The kernel's result on device `c`. -/
def outAt (c : Dev nD) : (cc0_stg3_0 : Ref sig .tc).ty.Contents (Elt F) :=
  outv c (fun j => extf .f32 (Yb m ρ (peer c j) (Fin.rev j) : FVec F S1024x512 .bf16) bitsLt_bf16_f32) (ochunk (sxg m ρ c) (swg m ρ c) (xg m ρ c) (fwg m c) c)

abbrev wAll (c : Dev nD) : sProp 𝕄 := wM.view.loc (c : Thread nD τ) ↦{fullShare} (fwg m c)

/-- What the global step makes for device `c`: the protocol's ghost state and the local copies' cells. -/
def G' (c : Dev nD) : sProp 𝕄 := iprop((∃ K, ghost (Yb m ρ) K c) ∗ (semVal (wCell c 4) 0 ∗ semVal (wCell c 5) 0))

/-- What device `c`'s body starts from beside its scratch buffers. -/
def start (c : Dev nD) : sProp 𝕄 := iprop(G' m ρ c ∗ credits c ∗ levAts L lv ∗ wAll m c)
def Φ₀ (c : Dev nD) : sProp 𝕄 := iprop(start m ρ c ∗ Pipeline.scopedRest cfg0.spec c)
/-- What is kept for the final state: the barrier counter at zero, the second matrix unchanged. -/
def kept (c : Dev nD) : sProp 𝕄 := iprop(unscopedSems0 c ∗ wAll m c)
def Φ₁ (c : Dev nD) : sProp 𝕄 := iprop(kept m c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxg m ρ c
    | ⟨1, _⟩ => swg m ρ c
    | ⟨2, _⟩ => xg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- The kernel's own semaphores: the local copies' two, the three send, the three receive; -/
theorem ownSems0_eq (c : Dev nD) : (Pipeline.ownSems0 (Ix := Unit) (Name := ℕ) (U := UU) (Lvl := ℕ) (Val := Elt F) (τ := τ) osem c : sProp 𝕄)
    = iprop(semVal (wCell c 4) 0 ∗ semVal (wCell c 5) 0 ∗ semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5, 6, 7] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The body -/

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (sxg m ρ c) ∗ stg c cc0_stg1_0 (swg m ρ c) ∗ stg c cc0_stg2_0 (xg m ρ c)
    ∗ stg c cc0_stg3_0 (outAt m ρ c))

set_option maxHeartbeats 800000 in
/-- What the body leaves is the post the pipeline wants. -/
theorem done_post (c : Dev nD) : done c (sxg m ρ c) (swg m ρ c) (xg m ρ c) (fwg m c) (outAt m ρ c) ⊢ bodyPost m ρ c := by
  unfold done bodyPost Φ₁ kept Dat.owesAt Pipeline.owesWithin
  rw [show (dats m ρ 0 c).owed t₀.succ = 0 from rfl, ownSems0_eq, unscopedSems0_eq, scopedRest0_eq]
  iintro ⟨⟨%W, HO⟩, ZB, ⟨Z4, Z5⟩, ⟨ZS0, ZS1, ZS2⟩, ⟨ZR0, ZR1, ZR2⟩, Hsx, Hsw, Hx, Hwa, Hwb, Ho, Hx8, Hwf, Hw8, Hy, Hr⟩
  ihave Hw := (pointsTo_share (PosShare.mem_left_op_right fullShare)).2 $$ [Hwa Hwb]
  · isplitl [Hwa] <;> iassumption
  ihave Hwf' := (w_out (F := F) c) $$ Hwf
  ihave Hy' := (y_out (F := F) c) $$ Hy
  ihave Hr' := (r_out (F := F) c) $$ Hr
  isplitl [ZB Hw Z4 Z5 ZS0 ZS1 ZS2 ZR0 ZR1 ZR2 Hx8 Hwf' Hw8 Hy' Hr']
  · isplitl [ZB Hw]
    · isplitl [ZB] <;> iassumption
    isplitl [Z4 Z5 ZS0 ZS1 ZS2 ZR0 ZR1 ZR2]
    · isplitl [Z4]; · iexact Z4
      isplitl [Z5]; · iexact Z5
      isplitl [ZS0]; · iexact ZS0
      isplitl [ZS1]; · iexact ZS1
      isplitl [ZS2]; · iexact ZS2
      isplitl [ZR0]; · iexact ZR0
      isplitl [ZR1] <;> iassumption
    isplitl [Hx8]; · iexact Hx8
    isplitl [Hwf']; · iexact Hwf'
    isplitl [Hw8]; · iexact Hw8
    isplitl [Hy']; · iexact Hy'
    iexact Hr'
  isplitl [HO]
  · iexists W
    isplitr; · ipureintro; exact fun _ _ => Or.inl trivial
    iexact HO
  isplitl [Hsx]
  · iexists _; isplitr; · (ipureintro; rfl)
    iexact Hsx
  isplitl [Hsw]
  · iexists _; isplitr; · (ipureintro; rfl)
    iexact Hsw
  isplitl [Hx]
  · iexists _; isplitr; · (ipureintro; rfl)
    iexact Hx
  iexists _; isplitr; · (ipureintro; rfl)
  iexact Ho

set_option maxHeartbeats 800000 in
set_option maxRecDepth 4000 in
theorem sound_body (c : Dev nD) :
    bodyPre m ρ c ⊢ wp frame (wpE (defs₀ (F := F)) 𝒱₀ (c : Thread nD τ) none) Set.univ
          (cc0__body sxM (Memref.isWhole_whole _) swM (Memref.isWhole_whole _) xM (Memref.isWhole_whole _) wM (Memref.isWhole_whole _)
            oM (Memref.isWhole_whole _) x8M (Memref.isWhole_whole _) wfM (Memref.isWhole_whole _) w8M (Memref.isWhole_whole _)
            yM (Memref.isWhole_whole _) rM (Memref.isWhole_whole _) cc0_scratch5 cc0_scratch6 cc0_scratch7) (fun _ => bodyPost m ρ c) := by
  unfold bodyPre Φ₀ start G' Dat.owesAt Pipeline.owesWithin
  rw [show (dats m ρ 0 c).owed t₀.castSucc = O₀ c from rfl, scopedRest0_eq]
  iintro ⟨⟨⟨⟨⟨%K, Hg⟩, ⟨Z4, Z5⟩⟩, Hcr, Hlev, Hw⟩, Hx8, Hwf, Hw8, Hy, Hr⟩, ⟨%W, -, HO⟩, ⟨%d0, %g0, %hg0, Hsx⟩, ⟨%d1, %g1, %hg1, Hsw⟩, ⟨%d2, %g2, %hg2, Hx⟩, ⟨%d3, %g3, -, Ho⟩⟩
  have e0 : g0 = sxg m ρ c := by rw [hg0]; unfold Dat.before; rw [if_pos (fetch_0 t₀)]; rfl
  have e1 : g1 = swg m ρ c := by rw [hg1]; unfold Dat.before; rw [if_pos (fetch_1 t₀)]; rfl
  have e2 : g2 = xg m ρ c := by rw [hg2]; unfold Dat.before; rw [if_pos (fetch_2 t₀)]; rfl
  subst e0 e1 e2
  ihave Hws := (pointsTo_share (PosShare.mem_left_op_right fullShare)).1 $$ Hw
  icases Hws with ⟨Hwa, Hwb⟩
  ihave Hwf' := (w_in (F := F) c) $$ Hwf
  icases Hwf' with ⟨Hw0, Hw1⟩
  ihave Hy' := (y_in (F := F) c) $$ Hy
  icases Hy' with ⟨Hy0, Hy1, Hy2⟩
  ihave Hr' := (r_in (F := F) c) $$ Hr
  icases Hr' with ⟨Hr0, Hr1, Hr2⟩
  iapply (run0 (Yb m ρ) K c W (sxg m ρ c) (swg m ρ c) (xg m ρ c) (fwg m c) g3 (fun _ => rfl) (fun _ => bodyPost m ρ c))
  isplitr [Hg Z4 Z5 Hcr Hlev HO Hsx Hsw Hx Ho Hwa Hwb Hx8 Hw0 Hw1 Hw8 Hy0 Hy1 Hy2 Hr0 Hr1 Hr2]
  · iintro H; iapply (done_post m ρ c); iexact H
  isplitl [Hg Hcr Hlev]
  · isplitl [Hg]; · iexact Hg
    isplitl [Hcr] <;> iassumption
  isplitl [HO]; · iexact HO
  isplitl [Z4]; · iexact Z4
  isplitl [Z5]; · iexact Z5
  isplitl [Hsx]; · iexact Hsx
  isplitl [Hsw]; · iexact Hsw
  isplitl [Hx]; · iexact Hx
  isplitl [Hwa]; · iexact Hwa
  isplitl [Hwb]; · iexact Hwb
  isplitl [Ho]; · iexact Ho
  isplitl [Hx8]; · iexact Hx8
  isplitl [Hw0]; · iexact Hw0
  isplitl [Hw1]; · iexact Hw1
  isplitl [Hw8]; · iexact Hw8
  isplitl [Hy0]; · iexact Hy0
  isplitl [Hy1]; · iexact Hy1
  isplitl [Hy2]; · iexact Hy2
  unfold rPts
  isplitl [Hr0]; · iexact Hr0
  isplitl [Hr1]; · iexact Hr1
  iexact Hr2

set_option maxRecDepth 20000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  exact congrArg (Prod.mk c) (csem_injective (congrArg Prod.snd h))
def ringCells : Finset (GSem nD τ sig) := Finset.univ.map ⟨kcell, kcell_injective⟩

/-- The duty tokens of a device's own cells: (which cell, which duty). -/
abbrev tokAt : Fin 9 → Fin 7 × Fin 3 := fun
  | 0 => (0, 0) | 1 => (0, 1) | 2 => (0, 2) | 3 => (1, 0) | 4 => (2, 0) | 5 => (3, 0) | 6 => (4, 0) | 7 => (5, 0) | 8 => (6, 0)
set_option maxRecDepth 4000 in
theorem tokAt_injective : Function.Injective tokAt := by decide
abbrev tokOf (cj : Dev nD × Fin 9) : GSem nD τ sig × ℕ × Fin 3 := (kcell (cj.1, (tokAt cj.2).1), 0, (tokAt cj.2).2)
theorem tokOf_injective : Function.Injective (tokOf : Dev nD × Fin 9 → GSem nD τ sig × ℕ × Fin 3) := by
  rintro ⟨c, j⟩ ⟨c', j'⟩ h
  have h1 := kcell_injective (congrArg Prod.fst h)
  have h2 : (tokAt j).2 = (tokAt j').2 := congrArg (fun x : GSem nD τ sig × ℕ × Fin 3 => x.2.2) h
  have h3 : c = c' := congrArg Prod.fst h1
  have h4 : (tokAt j).1 = (tokAt j').1 := congrArg Prod.snd h1
  rw [h3, tokAt_injective (Prod.ext h4 h2)]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks, 1)

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch element deals device `c`. -/
def G (c : Dev nD) : sProp 𝕄 :=
  iprop((bigSep Finset.univ fun k : Fin 7 => roundState ER (rd (Yb m ρ)) (kcell (c, k)) 0)
    ∗ (bigSep Finset.univ fun k : Fin 7 => iprop(atPos ER (kcell (c, k)) 0 ∅ 0 ∗ reached ER (kcell (c, k)) 0)) ∗ toks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem toks_of (c : Dev nD) : (bigSep Finset.univ fun j : Fin 9 => (dutyTok ER (tokOf (c, j)).1 (tokOf (c, j)).2.1 (tokOf (c, j)).2.2 : sProp 𝕄)) ⊢ toks c := by
  rw [bigSep_fin9]; unfold toks
  iintro ⟨B0, B1, B2, S0, S1, S2, R0, R1, R2⟩
  isplitl [B0 B1 B2]
  · isplitl [B0]; · iexact B0
    isplitl [B1] <;> iassumption
  isplitl [S0 S1 S2]
  · isplitl [S0]; · iexact S0
    isplitl [S1] <;> iassumption
  isplitl [R0]; · iexact R0
  isplitl [R1] <;> iassumption

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (rd (Yb m ρ)) ringCells ringToks) $$ HX with ⟨Hst, Hr, Hat, Htok⟩
  imodintro
  ihave Hst' := (Entails.of_eq (hX fun g => roundState ER (rd (Yb m ρ)) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => (semVal (kcell (c, k)) 0 : sProp 𝕄)) ∗ (semVal (wCell c 4) 0 ∗ semVal (wCell c 5) 0)) := by
  rw [ownSems0_eq, unscopedSems0_eq, bigSep_fin7]
  iintro ⟨⟨Z4, Z5, S0, S1, S2, R0, R1, R2⟩, HB⟩
  isplitr [Z4 Z5]
  · isplitl [HB]; · iexact HB
    isplitl [S0]; · iexact S0
    isplitl [S1]; · iexact S1
    isplitl [S2]; · iexact S2
    isplitl [R0]; · iexact R0
    isplitl [R1] <;> iassumption
  isplitl [Z4] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (Yb m ρ)) κ (kcell (c, k))))
          ∗ (bigSep Finset.univ fun k => iprop(atPos ER (kcell (c, k)) 0 ∅ 0 ∗ reached ER (kcell (c, k)) 0)) ∗ toks c
          ∗ (semVal (wCell c 4) 0 ∗ semVal (wCell c 5) 0)) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 7 => semVal (kcell (c, k)) 0) ∗ bigSep Finset.univ fun k : Fin 7 => roundState ER (rd (Yb m ρ)) (kcell (c, k)) 0)
      ⊢ (|={Set.univ}=> bigSep Finset.univ fun k => iprop(∃ κ : ℕ, cellInv ER (rd (Yb m ρ)) κ (kcell (c, k))) : sProp 𝕄) from by
        rw [← bigSep_sep']
        exact (bigSep_mono fun k _ => (Rounds.body_intro ER (rd (Yb m ρ)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

def records (K : Dev nD × Fin 7 → ℕ) : sProp 𝕄 :=
  iprop((bigSep Finset.univ fun ck : Dev nD × Fin 7 => cellInv ER (rd (Yb m ρ)) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) (g : GSem nD τ sig) (hg : kcell ck = g) :
    records m ρ K ⊢ cellInv ER (rd (Yb m ρ)) (K ck) g := by
  subst hg; unfold records
  iintro ⟨HI, -⟩
  iapply (show (bigSep Finset.univ fun ck : Dev nD × Fin 7 => (cellInv ER (rd (Yb m ρ)) (K ck) (kcell ck) : sProp 𝕄)) ⊢ cellInv ER (rd (Yb m ρ)) (K ck) (kcell ck)
    from bigSep_elim (Finset.mem_univ ck)); iexact HI
theorem reached_at (K : Dev nD × Fin 7 → ℕ) (ck : Dev nD × Fin 7) (g : GSem nD τ sig) (hg : kcell ck = g) :
    records m ρ K ⊢ (reached ER g 0 : sProp 𝕄) := by
  subst hg; unfold records
  iintro ⟨-, HR⟩
  iapply (show (bigSep Finset.univ fun ck : Dev nD × Fin 7 => (reached ER (kcell ck) 0 : sProp 𝕄)) ⊢ reached ER (kcell ck) 0
    from bigSep_elim (Finset.mem_univ ck)); iexact HR

/-- What stays with device `c`: its positions, the tokens of the duties it pays, the local copies' cells. -/
def linear (c : Dev nD) : sProp 𝕄 := iprop(places c ∗ payToks c ∗ (semVal (wCell c 4) 0 ∗ semVal (wCell c 5) 0))

theorem invs_intro (K : Dev nD × Fin 7 → ℕ) (c : Dev nD) : records m ρ K ⊢ invs (Yb m ρ) K c := by
  unfold invs
  iintro #H
  isplitr; · iapply (inv_at m ρ K (c, 0) _ rfl); iexact H
  isplitr
  · isplitr; · iapply (inv_at m ρ K (c, sk 0) _ rfl); iexact H
    isplitr; · iapply (inv_at m ρ K (c, sk 1) _ rfl); iexact H
    iapply (inv_at m ρ K (c, sk 2) _ rfl); iexact H
  isplitr
  · isplitr; · iapply (inv_at m ρ K (c, rk 0) _ rfl); iexact H
    isplitr; · iapply (inv_at m ρ K (c, rk 1) _ rfl); iexact H
    iapply (inv_at m ρ K (c, rk 2) _ rfl); iexact H
  isplitr
  · isplitr; · iapply (inv_at m ρ K (peer c 0, 0) _ rfl); iexact H
    isplitr; · iapply (inv_at m ρ K (peer c 1, 0) _ rfl); iexact H
    iapply (inv_at m ρ K (peer c 2, 0) _ rfl); iexact H
  isplitr; · iapply (inv_at m ρ K (peer c 0, rk 2) _ rfl); iexact H
  isplitr; · iapply (inv_at m ρ K (peer c 1, rk 1) _ rfl); iexact H
  iapply (inv_at m ρ K (peer c 2, rk 0) _ rfl); iexact H

theorem marks_intro (K : Dev nD × Fin 7 → ℕ) (c : Dev nD) : records m ρ K ⊢ marks c := by
  unfold marks
  iintro #H
  isplitr
  · isplitr; · iapply (reached_at m ρ K (peer c 0, 0) _ rfl); iexact H
    isplitr; · iapply (reached_at m ρ K (peer c 1, 0) _ rfl); iexact H
    iapply (reached_at m ρ K (peer c 2, 0) _ rfl); iexact H
  isplitr
  · isplitr; · iapply (reached_at m ρ K (c, sk 0) _ rfl); iexact H
    isplitr; · iapply (reached_at m ρ K (c, sk 1) _ rfl); iexact H
    iapply (reached_at m ρ K (c, sk 2) _ rfl); iexact H
  isplitr; · iapply (reached_at m ρ K (c, rk 0) _ rfl); iexact H
  isplitr; · iapply (reached_at m ρ K (c, rk 1) _ rfl); iexact H
  iapply (reached_at m ρ K (c, rk 2) _ rfl); iexact H

theorem ghost_intro (K : Dev nD × Fin 7 → ℕ) (c : Dev nD) : iprop(records m ρ K ∗ linear c) ⊢ G' m ρ c := by
  unfold linear G' ghost
  iintro ⟨#H, Hp, Ht, Hz⟩
  isplitl [Hp Ht]
  · iexists K
    isplitr; · iapply (invs_intro m ρ K c); iexact H
    isplitr; · iapply (marks_intro m ρ K c); iexact H
    isplitl [Hp] <;> iassumption
  iexact Hz

omit [FloatOps F] in
/-- The tokens dealt around the devices: every barrier or receive duty's to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv (around 0) (fun c : Dev nD => (dutyTok ER (barCell c) 0 0 : sProp 𝕄)),
    bigSep_univ_equiv (around 1) (fun c : Dev nD => (dutyTok ER (barCell c) 0 1 : sProp 𝕄)),
    bigSep_univ_equiv (around 2) (fun c : Dev nD => (dutyTok ER (barCell c) 0 2 : sProp 𝕄)),
    bigSep_univ_equiv (around 2) (fun c : Dev nD => (dutyTok ER (recvCell c 0) 0 0 : sProp 𝕄)),
    bigSep_univ_equiv (around 1) (fun c : Dev nD => (dutyTok ER (recvCell c 1) 0 0 : sProp 𝕄)),
    bigSep_univ_equiv (around 0) (fun c : Dev nD => (dutyTok ER (recvCell c 2) 0 0 : sProp 𝕄))]
  iintro ⟨HB, HS, R0, R1, R2⟩
  isplitl [HB]; · iexact HB
  isplitl [HS]; · iexact HS
  isplitl [R2]; · iexact R2
  isplitl [R1]; · iexact R1
  iexact R0

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem places_of (c : Dev nD) : (bigSep Finset.univ fun k : Fin 7 => (atPos ER (kcell (c, k)) 0 ∅ 0 : sProp 𝕄)) ⊢ places c := by
  rw [bigSep_fin7]; unfold places
  iintro ⟨HB, S0, S1, S2, R0, R1, R2⟩
  isplitl [HB]; · iexact HB
  isplitl [S0 S1 S2]
  · isplitl [S0]; · iexact S0
    isplitl [S1] <;> iassumption
  isplitl [R0]; · iexact R0
  isplitl [R1] <;> iassumption

theorem regroup :
    (bigSep Finset.univ fun c : Dev nD => iprop((bigSep Finset.univ fun k => iprop(∃ κ : ℕ, cellInv ER (rd (Yb m ρ)) κ (kcell (c, k))))
          ∗ (bigSep Finset.univ fun k => iprop(atPos ER (kcell (c, k)) 0 ∅ 0 ∗ reached ER (kcell (c, k)) 0)) ∗ toks c
          ∗ (semVal (wCell c 4) 0 ∗ semVal (wCell c 5) 0)) : sProp 𝕄)
      ⊢ bigSep Finset.univ (G' m ρ) := by
  rw [bigSep_sep', bigSep_sep', bigSep_sep', ← bigSep_univ_prod (fun ck : Dev nD × Fin 7 => iprop(∃ κ : ℕ, cellInv ER (rd (Yb m ρ)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hz⟩
  ihave HK := (BI.bigSep_exists_pi Finset.univ (fun (ck : Dev nD × Fin 7) (κ : ℕ) => (cellInv ER (rd (Yb m ρ)) κ (kcell ck) : sProp 𝕄))) $$ HI
  icases HK with ⟨%K, #HI⟩
  ihave Htk := (toks_around (F := F)) $$ Htok
  ihave Hpl := (show (bigSep Finset.univ fun c : Dev nD => bigSep Finset.univ fun k : Fin 7 => (atPos ER (kcell (c, k)) 0 ∅ 0 : sProp 𝕄)) ⊢ bigSep Finset.univ fun c : Dev nD => places c
    from bigSep_mono fun c _ => places_of c) $$ Hat
  iapply (bigSep_with_persistent (R := records m ρ K) fun c _ => ghost_intro m ρ K c)
  isplitr
  · unfold records; isplitl; · iexact HI
    iexact HR
  · iapply (show iprop((bigSep Finset.univ fun c : Dev nD => (places c : sProp 𝕄)) ∗ (bigSep Finset.univ fun c : Dev nD => payToks c)
        ∗ bigSep Finset.univ fun c : Dev nD => iprop(semVal (wCell c 4) 0 ∗ semVal (wCell c 5) 0)) ⊢ bigSep Finset.univ fun c : Dev nD => linear c
      from Entails.of_eq (by unfold linear; rw [bigSep_sep' Finset.univ (fun c : Dev nD => (places c : sProp 𝕄)), bigSep_sep' Finset.univ (fun c : Dev nD => (payToks c : sProp 𝕄))]))
    isplitl [Hpl]; · iexact Hpl
    isplitl [Htk]; · iexact Htk
    iexact Hz

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => congrArg (fun g : GSem nD τ sig => g.1.1) h, fun h => h ▸ rfl⟩
theorem recv_eq {a b : Dev nD} {j k : Fin 3} (h : recvCell a j = recvCell b k) : a = b ∧ j = k :=
  ⟨congrArg (fun g : GSem nD τ sig => g.1.1) h, recv_inj (congrArg Prod.snd h)⟩

/-- A payment to the barrier cell of the device `j + 1` places after `d`, seen from that cell; -/
theorem pay_bar (d c : Dev nD) (j : Fin 3) : tallyAt (barCell (peer d j)) () 1 (barCell c) () = if d = peer c (Fin.rev j) then 1 else 0 := by
  rw [tallyAt_apply]
  by_cases h : d = peer c (Fin.rev j)
  · subst h; rw [peer_peer', if_pos ⟨rfl, rfl⟩, if_pos rfl]
  · rw [if_neg (fun ⟨h1, _⟩ => h (by rw [bar_eq_iff.mp h1, peer_peer])), if_neg h]
/-- and to a receive cell, seen from a receive cell. -/
theorem pay_recv (d c : Dev nD) (b k : Fin 3) :
    tallyAt (recvCell (peer d b) (Fin.rev b)) () N (recvCell c k) () = if Fin.rev b = k then (if d = peer c k then N else 0) else 0 := by
  rw [tallyAt_apply]
  by_cases hk : Fin.rev b = k
  · subst hk
    rw [if_pos rfl]
    by_cases h : d = peer c (Fin.rev b)
    · subst h; rw [peer_peer', if_pos ⟨rfl, rfl⟩, if_pos rfl]
    · rw [if_neg (fun ⟨h1, _⟩ => h (by rw [(recv_eq h1).1, peer_peer])), if_neg h]
  · rw [if_neg (fun ⟨h1, _⟩ => hk (recv_eq h1).2.symm), if_neg hk]

theorem owed_bar (d c : Dev nD) : O₀ d (barCell c) () = ((if d = peer c 0 then 1 else 0) + (if d = peer c 1 then 1 else 0)) + (if d = peer c 2 then 1 else 0) := by
  unfold O₀ Os1 Os2 Ob0 Ob1 Ob2
  simp only [Pi.add_apply, Finsupp.add_apply]
  rw [pay_bar d c 0, pay_bar d c 1, pay_bar d c 2, tallyAt_ne_cell (fun h => recv_ne_bar 0 (congrArg Prod.snd h).symm),
    tallyAt_ne_cell (fun h => recv_ne_bar 1 (congrArg Prod.snd h).symm), tallyAt_ne_cell (fun h => recv_ne_bar 2 (congrArg Prod.snd h).symm)]
  simp only [Finsupp.zero_apply, Nat.zero_add]
  rfl

theorem owed_recv (d c : Dev nD) (k : Fin 3) : O₀ d (recvCell c k) () = if d = peer c k then N else 0 := by
  unfold O₀ Os1 Os2 Ob0 Ob1 Ob2
  simp only [Pi.add_apply, Finsupp.add_apply]
  rw [show tallyAt (recvCell (peer d 2) 0) () N (recvCell c k) () = _ from pay_recv d c 2 k, show tallyAt (recvCell (peer d 1) 1) () N (recvCell c k) () = _ from pay_recv d c 1 k,
    show tallyAt (recvCell (peer d 0) 2) () N (recvCell c k) () = _ from pay_recv d c 0 k]
  simp only [tallyAt_ne_cell (fun h : recvCell c k = barCell _ => recv_ne_bar k (congrArg Prod.snd h)), Finsupp.zero_apply, Nat.add_zero]
  have h2 : (Fin.rev 2 : Fin 3) = 0 := rfl
  have h1 : (Fin.rev 1 : Fin 3) = 1 := rfl
  have h0 : (Fin.rev 0 : Fin 3) = 2 := rfl
  rw [h0, h1, h2]
  rcases (show k = 0 ∨ k = 1 ∨ k = 2 by revert k; decide) with rfl | rfl | rfl
  · rw [if_pos (rfl : (0 : Fin 3) = 0), if_neg (by decide : ¬ (1 : Fin 3) = 0), if_neg (by decide : ¬ (2 : Fin 3) = 0), Nat.add_zero]
  · rw [if_neg (by decide : ¬ (0 : Fin 3) = 1), if_pos (rfl : (1 : Fin 3) = 1), if_neg (by decide : ¬ (2 : Fin 3) = 1), Nat.zero_add, Nat.add_zero]
  · rw [if_neg (by decide : ¬ (0 : Fin 3) = 2), if_neg (by decide : ¬ (1 : Fin 3) = 2), if_pos (rfl : (2 : Fin 3) = 2), Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer c 0) fun _ => 1, Finset.sum_ite_eq' Finset.univ (peer c 1) fun _ => 1, Finset.sum_ite_eq' Finset.univ (peer c 2) fun _ => 1,
    if_pos (Finset.mem_univ _), if_pos (Finset.mem_univ _), if_pos (Finset.mem_univ _)]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer c k) fun _ => N,
    if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv c 0, ← launch_recv c 1, ← launch_recv c 2]
  refine (BI.bigSep_subset (t := {SemLoc.dma (recvS 0), SemLoc.dma (recvS 1), SemLoc.dma (recvS 2)}) fun sm hs => Finset.mem_erase.mpr ⟨?_, Finset.mem_univ _⟩).trans ?_
  · rintro rfl; exact absurd hs (by decide)
  · rw [bigSep_eq_bigSepL_of_eq [SemLoc.dma (recvS 0), SemLoc.dma (recvS 1), SemLoc.dma (recvS 2)] (by decide) (by decide)]
    exact BI.Entails.refl _

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁; exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr (Or.inr (Or.inr (Or.inr rfl))))

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- The launch element split: the pipeline's copy and the protocol's. -/
theorem u₀_split : (ownU u₀ : sProp 𝕄)
    ⊢ iprop(BI.own (EP (initOf (Pipeline.cells cfgs cellOf_inj) (Pipeline.launchToks cfgs cellOf_inj))) ∗ BI.own (ER (initOf ringCells ringToks))) := by
  unfold u₀ ER
  iintro Hu
  ihave H := (ownU_pair _ _) $$ Hu
  icases H with ⟨HP, HX⟩
  ihave H2 := (own_pair_emb _ _ _) $$ HX
  icases H2 with ⟨HX, -⟩
  isplitl [HP]; · iexact HP
  iexact HX

set_option maxRecDepth 8000 in
/-- On the four devices, for any float values, from any memory with zero counters: every weakly fair execution of @main
    ends, and every final state has each device's arrays at the computed contents, the second matrix unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := (u₀_split (F := F)) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := kept m) (Z := fun _ => iprop(emp))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold kept
      iintro ⟨⟨Hu, Hw⟩, -, HSI⟩
      icombine HSI Hw gives %h0
      imod (Pipeline.unscopedSems0_read (X := unscopedSems0 c) (c := c) fupd_intro s') $$ [Hu HSI] with ⟨%h1, HSI⟩
      · isplitl [Hu] <;> iassumption
      imodintro
      isplitr; · ipureintro; exact ⟨Buf.eq_of_forall_mem_univ h0, h1⟩
      iexact HSI)
    (hQ := fun _ h hs => ⟨fun c => ⟨(h c).1, (h c).2.2.1⟩, sem_eq_zero hs fun c => (h c).2.2.2⟩)

/-- The arrays read after the run hold what they held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.AllToAll

end
-- ==== Proof.Frames.lean ====
/-
# `Frames`: the run, read argument by argument

What `Run.run_main` says of the launch's arrays, said of the arguments by name.
-/
module

public import proofs.«01_k».proof.Proof.Run

@[expose] public section

noncomputable section

namespace Cert.AllToAll

open Cert.KernelIdeal Cert.KernelIdeal.Gen
open Idealize.ShloMosaic Idealize.ShloMosaic.TcCoe Idealize.SL.Sem

variable {F : FTy → Type} [FloatOps F]

/-- Every argument of every device holds what it held. -/
def ArgsKept (m : (ℓ : Loc nD τ sig) → Buf (Elt F) ℓ) (mem : (ℓ : Loc nD τ sig) → Buf (Elt F) ℓ) (c : Dev nD) : Prop :=
  mem (c.tc.loc main_arg0) = m (c.tc.loc main_arg0) ∧ mem (c.tc.loc main_arg1) = m (c.tc.loc main_arg1)
    ∧ mem (c.tc.loc main_arg2) = m (c.tc.loc main_arg2) ∧ mem (c.tc.loc main_arg3) = m (c.tc.loc main_arg3)

/-- The run, with the result and the arguments by name. -/
theorem run_named (m : (ℓ : Loc nD τ sig) → Buf (Elt F) ℓ) (ρ : Dev nD → PrngReg) :
    θ_run defs (onTc (τ := τ) (main (F := F))) ⟨m, fun _ => 0, ρ⟩
      (fun r => (∀ c : Dev nD, r.2.mem (c.tc.loc main_v1) = finalA m ρ c 3 ∧ ArgsKept m r.2.mem c) ∧ r.2.sem = fun _ => 0) :=
  (θ_run defs _ _).mono
    (fun _ h => ⟨fun c => ⟨(h.1 c).1 3, ((h.1 c).1 2).trans (finalA_in m ρ c 2 rfl), (h.1 c).2,
      ((h.1 c).1 0).trans (finalA_in m ρ c 0 rfl), ((h.1 c).1 1).trans (finalA_in m ρ c 1 rfl)⟩, h.2⟩)
    (run_main m ρ)

end Cert.AllToAll

end
-- ==== Proof.Val.lean ====
/-
# `Val`: the kernel's result over the extended reals

Over the extended reals the changes of format are identities and the product of a chunk is a sum of products, so the result
of device `c` at row `i`, column `j` is the activated, scaled product of the row of the first matrix that device `i / 1024` holds
and column `512 c + j` of the second: whichever of the devices computed it, and through which buffer it went.
-/
module

public import proofs.«01_k».proof.Proof.Frames
public import Idealize.ShloMosaic.Lib.ValueIdx
public import Idealize.ShloMosaic.Lib.ValueLayout
public import Idealize.ShloMosaic.Lib.MatmulPlain
public import Idealize.ShloMosaic.Lib.VecWindow
public import Idealize.ShloMosaic.Lib.Pipeline.Value

@[expose] public section

noncomputable section

namespace Cert.AllToAll

open Cert.KernelIdeal Cert.KernelIdeal.Gen
open Idealize.ShloMosaic Idealize.ShloMosaic.TcCoe Idealize.SL.Sem
open Idealize.ShloMosaic.ValueIdx Idealize.ShloMosaic.Pipeline

/-! ## The mathematics -/

/-- Row `i` of `x` times column `j` of `w`. -/
def dotAt {M N : ℕ} (x : (⟨2, ![M, 4096]⟩ : Shape).Idx → EReal) (w : (⟨2, ![4096, N]⟩ : Shape).Idx → EReal) (i : Fin M) (j : Fin N) : EReal :=
  ∑ k : Fin 4096, x (ix2 i k) * w (ix2 k j)

/-- The product of two scales, each the one element of its array. -/
def scaleAt (sx sw : (⟨1, ![1]⟩ : Shape).Idx → EReal) : EReal := sx (ix1 0) * sw (ix1 0)

/-- The activation as the kernel writes it. -/
def silu (y : EReal) : EReal := y * Ideal.logistic y

/-! ## The body's values at an index -/

theorem xq_apply (fx : (cc0_stg2_0 : Ref sig .tc).ty.Contents (Elt Ideal)) (i : Fin 1024) (k : Fin 4096) :
    xq (F := Ideal) fx (ix2 i k) = fx (ix2 i k) := by
  unfold xq k0_pay2
  rw [shapeCast_self, truncf_apply, shapeCast_self]
  exact congrFun (View.readAt_full xM.view fx inb_S1024x4096_S1024x4096_0_0) (ix2 i k)

theorem wq_apply (d : Vec Ideal S4096x128 .f32) (k : Fin 4096) (j : Fin 128) :
    shapeCast S4096x128 (wq (F := Ideal) d) shapeCasts_S1x4096x128_S4096x128 (ix2 k j) = d (ix2 k j) := by
  unfold wq
  rw [shapeCast_1ab_ab_apply, shapeCast_ab_1ab_apply, truncf_apply]

theorem sv_eq (fsx : (cc0_stg0_0 : Ref sig .tc).ty.Contents (Elt Ideal)) (fsw : (cc0_stg1_0 : Ref sig .tc).ty.Contents (Elt Ideal)) :
    sv (F := Ideal) fsx fsw = scaleAt fsx fsw := by
  have h (v : S1.Idx) : v = ix1 0 := by
    funext a; match a with | ⟨0, _⟩ => exact Subsingleton.elim (α := Fin 1) _ _
  unfold sv scaleAt k0_pay1
  exact congrArg₂ (fun a b : EReal => a * b)
    ((congrFun (View.readAt_full sxM.view fsx inb_S1_S1_0) _).trans (congrArg fsx (h _)))
    ((congrFun (View.readAt_full swM.view fsw inb_S1_S1_0) _).trans (congrArg fsw (h _)))

theorem logistic_at {s : Shape} {φ : FTy} (x : FVec Ideal s φ) (i : s.Idx) : logistic x i = Ideal.logistic (x i) := rfl

theorem mm_apply (a : FVec Ideal S1024x4096 .fp8e4m3) (b : FVec Ideal S4096x128 .fp8e4m3) (i : Fin 1024) (j : Fin 128) :
    matmul dot_S1024x4096_S4096x128_S1024x128_1_0_0_1_n_n none a b (constant (F := Ideal) S1024x128 .f32 0x00000000#32) (ix2 i j)
      = dotAt a b i j := by
  refine (Ideal.matmul_plain_apply none a b _ i j).trans ?_
  rw [constant_apply, show Ideal.ofBits .f32 0x00000000#32 = 0 by simp [Ideal.ofBits, Ideal.ieee], zero_add]
  rfl

section
variable (fsx : (cc0_stg0_0 : Ref sig .tc).ty.Contents (Elt Ideal)) (fsw : (cc0_stg1_0 : Ref sig .tc).ty.Contents (Elt Ideal))
    (fx : (cc0_stg2_0 : Ref sig .tc).ty.Contents (Elt Ideal)) (fw : (main_arg1 : Ref sig .tc).ty.Contents (Elt Ideal))

theorem dot_chunk (c : Dev nD) (b q : Fin 4) (i : Fin 1024) (j : Fin 128) :
    dotAt (xq (F := Ideal) fx) (shapeCast S4096x128 (wq (F := Ideal) (wcol c b q fw)) shapeCasts_S1x4096x128_S4096x128) i j
      = dotAt fx fw i ⟨512 * ((c.val + b.val + 1) % 4) + 128 * q.val + j.val, col_lt c b q j⟩ :=
  Finset.sum_congr rfl fun k _ => by rw [xq_apply, wq_apply]; rfl

theorem ochunk_apply (c : Dev nD) (q : Fin 4) (i : Fin 1024) (j : Fin 128) :
    ochunk (F := Ideal) fsx fsw fx fw c q (ix2 i j)
      = silu (dotAt fx fw i ⟨512 * ((c.val + 3 + 1) % 4) + 128 * q.val + j.val, col_lt c 3 q j⟩ * scaleAt fsx fsw) := by
  have h := (mm_apply _ _ i j).trans (dot_chunk fx fw c 3 q i j)
  unfold ochunk k0_pay28 silu
  simp only [logistic_at, mulf_apply, broadcast_apply, sv_eq]
  rw [h]; rfl

theorem ychunk_apply (c : Dev nD) (b q : Fin 4) (z : Fin 1) (i : Fin 1024) (j : Fin 128) :
    ychunk (F := Ideal) fsx fsw fx fw c b q (ix3 z i j)
      = silu (dotAt fx fw i ⟨512 * ((c.val + b.val + 1) % 4) + 128 * q.val + j.val, col_lt c b q j⟩ * scaleAt fsx fsw) := by
  have h := (mm_apply _ _ i j).trans (dot_chunk fx fw c b q i j)
  obtain rfl : z = 0 := Subsingleton.elim _ _
  unfold ychunk k0_pay4 silu
  rw [shapeCast_ab_1ab_apply, truncf_apply]
  simp only [logistic_at, mulf_apply, broadcast_apply, sv_eq]
  rw [h]

/-- A block that is sent, at its row `i` and column `j`. -/
theorem blk_apply (c : Dev nD) (b : Fin 3) (i : Fin 1024) (j : Fin 512) (j' : Fin 2048) (hj : j'.val = 512 * ((c.val + b.val + 1) % 4) + j.val) :
    blk (F := Ideal) fsx fsw fx fw c b (ix2 i j) = silu (dotAt fx fw i j' * scaleAt fsx fsw) := by
  refine (ychunk_apply fsx fsw fx fw c b.castSucc _ 0 i _).trans ?_
  refine congrArg (fun n => silu (dotAt fx fw i n * scaleAt fsx fsw)) (Fin.ext ?_)
  show 512 * ((c.val + b.val + 1) % 4) + 128 * (j.val / 128) + j.val % 128 = j'.val
  omega

end

/-! ## The result -/

section
variable (m : (ℓ : Loc nD τ sig) → Buf (Elt Ideal) ℓ) (ρ : Dev nD → PrngReg)

abbrev xm (c : Dev nD) : (⟨2, ![1024, 4096]⟩ : Shape).Idx → EReal := m (c.tc.loc main_arg0)
abbrev wm (c : Dev nD) : (⟨2, ![4096, 2048]⟩ : Shape).Idx → EReal := m (c.tc.loc main_arg1)
abbrev sxm (c : Dev nD) : (⟨1, ![1]⟩ : Shape).Idx → EReal := m (c.tc.loc main_arg2)
abbrev swm (c : Dev nD) : (⟨1, ![1]⟩ : Shape).Idx → EReal := m (c.tc.loc main_arg3)

/-- An offset of a whole array's block is zero. -/
theorem whole_off (o n : ℕ) (h : o = 0) : o + 1 * n = n := by omega

theorem sxg_eq (c : Dev nD) : sxg m ρ c = sxm m c := by
  funext i
  show m (c.tc.loc main_arg2) _ = m (c.tc.loc main_arg2) i
  refine congrArg _ (funext fun a => Fin.ext ?_)
  match a with
  | ⟨0, _⟩ => exact whole_off _ (i 0).val (Nat.zero_mul _)

theorem swg_eq (c : Dev nD) : swg m ρ c = swm m c := by
  funext i
  show m (c.tc.loc main_arg3) _ = m (c.tc.loc main_arg3) i
  refine congrArg _ (funext fun a => Fin.ext ?_)
  match a with
  | ⟨0, _⟩ => exact whole_off _ (i 0).val (Nat.zero_mul _)

theorem xg_eq (c : Dev nD) : xg m ρ c = xm m c := by
  funext i
  show m (c.tc.loc main_arg0) _ = m (c.tc.loc main_arg0) i
  refine congrArg _ (funext fun a => Fin.ext ?_)
  match a with
  | ⟨0, _⟩ => exact whole_off _ (i 0).val (Nat.zero_mul _)
  | ⟨1, _⟩ => exact whole_off _ (i 1).val (Nat.zero_mul _)

theorem emb3 (t : Fin cfg0.N) (i : S4096x512.Idx) : ((cfg0.win 3).blk t).view.emb i = i := by
  rw [fin_N t]
  refine funext fun a => Fin.ext ?_
  match a with
  | ⟨0, _⟩ => exact whole_off _ (i 0).val (Nat.zero_mul _)
  | ⟨1, _⟩ => exact whole_off _ (i 1).val (Nat.zero_mul _)

theorem flushed3 (c : Dev nD) (t : Fin cfg0.N) :
    (dats m ρ 0 c).flushed 3 t = ((cfg0.win 3).blk t).view.read (Elt Ideal) (outAt m ρ c) := by
  funext j
  show outAt m ρ c j = outAt m ρ c (((cfg0.win 3).blk t).view.emb j)
  rw [emb3]

/-- The result array ends holding what the body leaves in its buffer. -/
theorem finalA_out (c : Dev nD) : finalA m ρ c 3 = outAt m ρ c :=
  (dats m ρ 0 c).arrAt_eq_of_cover 3 (outAt m ρ c) (fun t _ => flushed3 m ρ c t) fun i =>
    ⟨t₀, by rfl, by have h := ((cfg0.win 3).blk t₀).view.emb_mem_set i; rwa [emb3] at h⟩

/-- **The result of device `c`** at row `1024 r + i`, column `j`: row `i` of device `r`'s part of the first matrix, times column
    `512 c + j` of the second, scaled and activated. -/
theorem out_apply (c r : Dev nD) (p : S4096x512.Idx) (i : Fin 1024) (j' : Fin 2048) (hi : (p 0).val = 1024 * r.val + i.val)
    (hj : j'.val = 512 * c.val + (p 1).val) :
    finalA m ρ c 3 p = silu (dotAt (xm m r) (wm m r) i j' * scaleAt (sxm m r) (swm m r)) := by
  have hc : c.val < 4 := c.isLt
  have hr : r.val < 4 := r.isLt
  have hil := i.isLt
  have hp : (p 1).val < 512 := (p 1).isLt
  have hs : step c p = (r.val + 4 - c.val) % 4 := by unfold step; rw [hi]; congr 1; omega
  have hm : (p 0).val % 1024 = i.val := by omega
  rw [finalA_out]
  unfold outAt outv
  by_cases h : step c p = 0
  · obtain rfl : r = c := Fin.ext (by omega)
    rw [dif_pos h, sxg_eq, swg_eq, xg_eq]
    refine (ochunk_apply ..).trans ?_
    refine congrArg₂ (fun (a : Fin 1024) n => silu (dotAt (xm m r) (wm m r) a n * scaleAt (sxm m r) (swm m r))) (Fin.ext hm) (Fin.ext ?_)
    show 512 * ((r.val + 3 + 1) % 4) + 128 * ((p 1).val / 128) + (p 1).val % 128 = j'.val
    omega
  · rw [dif_neg h]
    have hpr : peer c ⟨step c p - 1, by omega⟩ = r := Fin.ext (by show (c.val + (step c p - 1) + 1) % 4 = r.val; omega)
    show blk (sxg m ρ (peer c ⟨step c p - 1, _⟩)) _ _ _ _ _ (ix2 _ (p 1)) = _
    rw [hpr, sxg_eq, swg_eq, xg_eq]
    refine (blk_apply _ _ _ _ r _ _ _ j' ?_).trans ?_
    · show j'.val = 512 * ((r.val + (3 - ((step c p - 1) + 1)) + 1) % 4) + (p 1).val
      omega
    · exact congrArg (fun (a : Fin 1024) => silu (dotAt (xm m r) (wm m r) a j' * scaleAt (sxm m r) (swm m r))) (Fin.ext hm)

end

end Cert.AllToAll

end
-- ==== Proof.Refs.lean ====
/-
# `Refs`: the references' results over the extended reals

Either reference is the activation of the scaled product at each index. The one that clips computes the same wherever the scaled
product lies within the clip's bounds, which the precondition says of every device's rows.
-/
module

public import proofs.«01_k».proof.Proof.Val
public import proofs.«01_k».proof.Proof.Gen.ReferenceIdeal.Run
public import proofs.«01_k».proof.Proof.Gen.SiluIdeal.Run
public import proofs.«01_k».proof.Proof.Gen.Pre_in_range_KernelIdeal
public import proofs.«01_k».proof.Proof.Gen.Pre_in_range_ReferenceIdeal
public import Idealize.ShloMosaic.Lib.StackMember

@[expose] public section

noncomputable section

namespace Cert.AllToAll

open Idealize.ShloMosaic Idealize.ShloMosaic.TcCoe Idealize.SL.Sem
open Idealize.ShloMosaic.ValueIdx Idealize.ShloMosaic.Pipeline

/-! ## The activation -/

theorem one_add_exp_ne (y : EReal) : 1 + Ideal.exp y ≠ 0 := by
  have h : (0 : EReal) ≤ Ideal.exp y := by
    induction y using EReal.rec with
    | bot => simp
    | top => simp
    | coe r => rw [Ideal.exp_coe]; exact_mod_cast (Real.exp_pos r).le
  have h1 : (0 : EReal) < 1 + Ideal.exp y := lt_of_lt_of_le zero_lt_one (le_add_of_nonneg_right h)
  exact h1.ne'

/-- The quotient the references write is the activation the kernel writes. -/
theorem div_silu (y : EReal) : Ideal.div y (1 + Ideal.exp (-y)) = silu y := by
  unfold silu Ideal.logistic Ideal.div
  rw [if_neg (one_add_exp_ne _), if_neg (one_add_exp_ne _), one_mul]

theorem one_bits : Ideal.ofBits .f32 0x3F800000#32 = 1 := by simp [Ideal.ofBits, Ideal.ieee, -EReal.coe_mul]; norm_num

/-! ## A reference at an index -/

section
variable {M N : ℕ}

/-- The scaled product at an index. -/
theorem scaled_apply (d : DotDims ⟨2, ![M, 4096]⟩ ⟨2, ![4096, N]⟩ ⟨2, ![M, N]⟩) (hd : d = DotDims.plain M 4096 N)
    (h1 : (⟨1, ![1]⟩ : Shape).BroadcastsInDim ⟨2, ![1, 1]⟩ ![1]) (h2 : (⟨2, ![1, 1]⟩ : Shape).BroadcastsInDim ⟨2, ![M, N]⟩ ![0, 1])
    (x : FVec Ideal ⟨2, ![M, 4096]⟩ .f32) (w : FVec Ideal ⟨2, ![4096, N]⟩ .f32) (a b : FVec Ideal ⟨1, ![1]⟩ .f32) (i : Fin M) (j : Fin N) :
    mulf (Host.dotGeneral d none x w) (broadcastInDim ⟨2, ![M, N]⟩ ![0, 1] h2 (broadcastInDim ⟨2, ![1, 1]⟩ ![1] h1 (mulf a b))) (ix2 i j)
      = dotAt x w i j * scaleAt a b := by
  subst hd
  rw [mulf_apply, StackMember.dotGeneral_plain_apply]
  refine congrArg (fun s => _ * s) ?_
  refine (broadcastInDim_apply ![0, 1] h2 _ (ix2 i j) (ix2 0 0) ?_).trans ((broadcastInDim_apply ![1] h1 _ (ix2 0 0) (ix1 0) ?_).trans rfl)
  · intro a; match a with | ⟨0, _⟩ => rfl | ⟨1, _⟩ => rfl
  · intro a; match a with | ⟨0, _⟩ => rfl

/-- The quotient at an index, where what the exponential takes there is the scaled product, clipped or not. -/
theorem quotient_apply {s : Shape} (y z o : FVec Ideal s .f32) (i : s.Idx) (ho : o i = Ideal.ofBits .f32 0x3F800000#32) (hz : z i = y i) :
    Host.divf y (addf o (Host.exp (Host.negf z))) i = silu (y i) := by
  show Ideal.div (y i) (o i + Ideal.exp (-(z i))) = _
  rw [ho, hz, one_bits, div_silu]

/-- A value within the clip's bounds is left alone. -/
theorem clip_apply {s : Shape} (lo hi y : FVec Ideal s .f32) (i : s.Idx) (hl : lo i ≤ y i) (hh : y i ≤ hi i) :
    minimumf hi (maximumf lo y) i = y i := by
  rw [minimumf_apply, maximumf_apply]
  exact (congrArg (min (hi i)) (max_eq_right hl)).trans (min_eq_right hh)

end

/-! ## The kernel's result against a reference's -/

section
open Cert.KernelIdeal Cert.KernelIdeal.Gen

variable (m : (ℓ : Loc nD τ sig) → Buf (Elt Ideal) ℓ) (ρ : Dev nD → PrngReg)
  (X : (⟨2, ![4096, 4096]⟩ : Shape).Idx → EReal) (W : (⟨2, ![4096, 2048]⟩ : Shape).Idx → EReal) (A B : (⟨1, ![1]⟩ : Shape).Idx → EReal)

/-- Every device's arguments are its part of the reference's. -/
def Agree : Prop := ∀ c : Dev nD,
  xm m c = Layout.block ⟨2, ![1024, 4096]⟩ ⟨2, ![4096, 4096]⟩ 0 4 c X ∧ wm m c = W ∧ sxm m c = A ∧ swm m c = B

variable {m X W A B}

/-- Row `i` of device `r` is row `1024 r + i` of the whole. -/
theorem dot_agree (h : Agree m X W A B) (r : Dev nD) (i : Fin 1024) (i' : Fin 4096) (hi : i'.val = 1024 * r.val + i.val) (j : Fin 2048) :
    dotAt (xm m r) (wm m r) i j = dotAt X W i' j := by
  obtain ⟨hx, hw, _, _⟩ := h r
  rw [hx, hw]
  refine Finset.sum_congr rfl fun k _ => congrArg (fun a => a * W (ix2 k j)) ?_
  refine congrArg X (funext fun a => Fin.ext ?_)
  match a with
  | ⟨0, _⟩ => exact (Layout.idx_rows_val _ r (ix2 i k)).1.trans ((by show r.val * 1024 + i.val = i'.val; omega))
  | ⟨1, _⟩ => exact (Layout.idx_rows_val _ r (ix2 i k)).2

theorem scale_agree (h : Agree m X W A B) (r : Dev nD) : scaleAt (sxm m r) (swm m r) = scaleAt A B := by
  obtain ⟨_, _, ha, hb⟩ := h r
  rw [ha, hb]

/-- The kernel's result on device `c` is block `c` of the columns of the activated, scaled product. -/
theorem out_block (h : Agree m X W A B) (v : (⟨2, ![4096, 2048]⟩ : Shape).Idx → EReal)
    (hv : ∀ i j, v (ix2 i j) = silu (dotAt X W i j * scaleAt A B)) (c : Dev nD) :
    finalA m ρ c 3 = Layout.block ⟨2, ![4096, 512]⟩ ⟨2, ![4096, 2048]⟩ 1 4 c v := by
  funext p
  have hc : c.val < 4 := c.isLt
  have h0 : (p 0).val < 4096 := (p 0).isLt
  have h1 : (p 1).val < 512 := (p 1).isLt
  let r : Dev nD := ⟨(p 0).val / 1024, by show _ < 4; omega⟩
  let i : Fin 1024 := ⟨(p 0).val % 1024, by omega⟩
  let i' : Fin 4096 := ⟨(p 0).val, h0⟩
  let j' : Fin 2048 := ⟨512 * c.val + (p 1).val, by omega⟩
  have hi : (p 0).val = 1024 * r.val + i.val := by show (p 0).val = 1024 * ((p 0).val / 1024) + (p 0).val % 1024; omega
  refine (out_apply m ρ c r p i j' hi rfl).trans ?_
  rw [dot_agree h r i i' hi, scale_agree h, ← hv]
  refine congrArg v (funext fun a => Fin.ext ?_)
  match a with
  | ⟨0, _⟩ => exact (Layout.idx_cols_val _ c p).1.symm
  | ⟨1, _⟩ => exact (by show 512 * c.val + (p 1).val = c.val * 512 + (p 1).val; omega : j'.val = c.val * 512 + (p 1).val).trans (Layout.idx_cols_val _ c p).2.symm

theorem bits_and : ∀ a b : BitVec 1, a &&& b = 1#1 → a = 1#1 ∧ b = 1#1 := by decide
theorem of_bit (P : Prop) [Decidable P] (h : BitVec.ofBool (decide P) = 1#1) : P := by
  by_contra hn; rw [decide_eq_false hn] at h; exact absurd h (by decide)

/-- What the precondition says: every scaled product lies within the clip's bounds. -/
theorem in_range_bounds (h : Agree m X W A B)
    (hp : ∀ c : Dev nD, Cert.Pre_in_range_KernelIdeal.fn (F := Ideal) (m (c.tc.loc main_arg0)) (m (c.tc.loc main_arg1)) (m (c.tc.loc main_arg2))
      (m (c.tc.loc main_arg3)) = fun _ => 1#1) (i' : Fin 4096) (j : Fin 2048) :
    Ideal.ofBits .f32 0xC2700000#32 ≤ dotAt X W i' j * scaleAt A B ∧ dotAt X W i' j * scaleAt A B ≤ Ideal.ofBits .f32 0x42700000#32 := by
  have h0 := i'.isLt
  let r : Dev nD := ⟨i'.val / 1024, by show _ < 4; omega⟩
  let i : Fin 1024 := ⟨i'.val % 1024, by omega⟩
  have hi : i'.val = 1024 * r.val + i.val := by show i'.val = 1024 * (i'.val / 1024) + i'.val % 1024; omega
  have e := congrFun (hp r) (ix2 i j)
  have y := scaled_apply Cert.Pre_in_range_KernelIdeal.dot_S1024x4096_S4096x2048_S1024x2048_1_0_0_1_n_n rfl
    Cert.Pre_in_range_KernelIdeal.Facts.bcast_S1_S1x1_1 Cert.Pre_in_range_KernelIdeal.Facts.bcast_S1x1_S1024x2048_0_1
    (xm m r) (wm m r) (sxm m r) (swm m r) i j
  rw [dot_agree h r i i' hi, scale_agree h] at y
  rw [← y]
  unfold Cert.Pre_in_range_KernelIdeal.fn at e
  obtain ⟨e1, e2⟩ := bits_and _ _ e
  exact ⟨of_bit _ e1, of_bit _ e2⟩

end

/-! ## The references -/

section
open Cert.SiluIdeal Cert.SiluIdeal.Facts Cert.SiluIdeal.Gen

/-- The plain reference's result. -/
def siluRef (X : FVec Ideal S4096x4096 .f32) (W : FVec Ideal S4096x2048 .f32) (A B : FVec Ideal S1 .f32) : FVec Ideal S4096x2048 .f32 :=
  let y : FVec Ideal S4096x2048 .f32 := mulf (Host.dotGeneral dot_S4096x4096_S4096x2048_S4096x2048_1_0_0_1_n_n none X W)
    (broadcastInDim S4096x2048 ![0, 1] bcast_S1x1_S4096x2048_0_1 (broadcastInDim S1x1 ![1] bcast_S1_S1x1_1 (mulf A B)))
  Host.divf y (addf (broadcastInDim S4096x2048 ![] bcast_S_S4096x2048 (constant S_ .f32 0x3F800000#32)) (Host.exp (Host.negf y)))

theorem siluRef_apply (X : FVec Ideal S4096x4096 .f32) (W : FVec Ideal S4096x2048 .f32) (A B : FVec Ideal S1 .f32) (i : Fin 4096) (j : Fin 2048) :
    siluRef X W A B (ix2 i j) = silu (dotAt X W i j * scaleAt A B) :=
  (quotient_apply _ _ _ _ rfl rfl).trans (congrArg silu (scaled_apply _ rfl _ _ X W A B i j))

end

section
open Cert.ReferenceIdeal Cert.ReferenceIdeal.Facts Cert.ReferenceIdeal.Gen

/-- The reference's result, which clips what the exponential takes. -/
def clipRef (X : FVec Ideal S4096x4096 .f32) (W : FVec Ideal S4096x2048 .f32) (A B : FVec Ideal S1 .f32) : FVec Ideal S4096x2048 .f32 :=
  let y : FVec Ideal S4096x2048 .f32 := mulf (Host.dotGeneral dot_S4096x4096_S4096x2048_S4096x2048_1_0_0_1_n_n none X W)
    (broadcastInDim S4096x2048 ![0, 1] bcast_S1x1_S4096x2048_0_1 (broadcastInDim S1x1 ![1] bcast_S1_S1x1_1 (mulf A B)))
  Host.divf y (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) y)))))

theorem clipRef_apply (X : FVec Ideal S4096x4096 .f32) (W : FVec Ideal S4096x2048 .f32) (A B : FVec Ideal S1 .f32) (i : Fin 4096) (j : Fin 2048)
    (h : Ideal.ofBits .f32 0xC2700000#32 ≤ dotAt X W i j * scaleAt A B ∧ dotAt X W i j * scaleAt A B ≤ Ideal.ofBits .f32 0x42700000#32) :
    clipRef X W A B (ix2 i j) = silu (dotAt X W i j * scaleAt A B) := by
  have y := scaled_apply dot_S4096x4096_S4096x2048_S4096x2048_1_0_0_1_n_n rfl bcast_S1_S1x1_1 bcast_S1x1_S4096x2048_0_1 X W A B i j
  rw [← y] at h ⊢
  exact quotient_apply _ _ _ _ rfl (clip_apply _ _ _ _ h.1 h.2)

end

end Cert.AllToAll

end
-- ==== Proof.lean ====
/-
# The proof of the claims
-/
module

public import proofs.«01_k».proof.Defs
public import proofs.«01_k».proof.Proof.Frames
public import proofs.«01_k».proof.Proof.Refs
public import proofs.«01_k».proof.Proof.Gen.Kernel
public import proofs.«01_k».proof.Proof.Gen.KernelIdeal
public import proofs.«01_k».proof.Proof.Gen.ReferenceIdeal.Run
public import proofs.«01_k».proof.Proof.Gen.SiluIdeal.Run
public import proofs.«01_k».proof.Proof.Gen.Pre_in_range_KernelIdeal
public import proofs.«01_k».proof.Proof.Gen.Pre_in_range_ReferenceIdeal

@[expose] public section

noncomputable section

namespace Cert.Proof

open Idealize.ShloMosaic Idealize.SL.Sem

/-! ## The kernel at its own floats: the same program, printed under another name -/

theorem defs₀_eq {F : FTy → Type} [FloatOps F] : Cert.Kernel.defs₀ (F := F) = Cert.KernelIdeal.defs₀ (F := F) := by
  refine congrArg Defs.onTc (funext fun l => funext fun a => ?_)
  match l, a with
  | 0, (t, s) => rfl

theorem defs_eq {F : FTy → Type} [FloatOps F] : Cert.Kernel.defs (F := F) = Cert.KernelIdeal.defs (F := F) :=
  congrArg (Pipeline.defs Cert.KernelIdeal.pcfgs) defs₀_eq

theorem frame_kernel : Cert.quiescent_Kernel (hKernel := Cert.Kernel.Gen.facts) := by
  intro m ρ _
  rw [defs_eq]
  exact (θ_run Cert.KernelIdeal.defs _ _).mono (fun _ h => ⟨fun c => (h.1 c).2, h.2⟩) (Cert.AllToAll.run_named (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.AllToAll.run_named (F := Ideal) m ρ)

/-! ## The references: host programs without a semaphore -/

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_silu : Cert.quiescent_SiluIdeal (hSiluIdeal := Cert.SiluIdeal.Gen.facts) := fun m ρ _ =>
  (θ_run Cert.SiluIdeal.defs _ _).mono (fun r h => ⟨fun c => (h c).2, sem_eq_zero_of_no_sems (by decide) r.2⟩)
    (Cert.SiluIdeal.Value.run (F := Ideal) m ρ)

/-! ## The values -/

/-- Every device ends with its block of the plain reference's result. -/
theorem value_silu : Cert.algebraic_KernelIdeal_SiluIdeal (hKernelIdeal := Cert.KernelIdeal.Gen.facts) (hSiluIdeal := Cert.SiluIdeal.Gen.facts) := by
  intro m ρ m' ρ' _ hag
  refine ⟨Cert.AllToAll.siluRef (m' ((0 : Dev Cert.SiluIdeal.nD).tc.loc Cert.SiluIdeal.main_arg0)) (m' ((0 : Dev Cert.SiluIdeal.nD).tc.loc Cert.SiluIdeal.main_arg1))
    (m' ((0 : Dev Cert.SiluIdeal.nD).tc.loc Cert.SiluIdeal.main_arg2)) (m' ((0 : Dev Cert.SiluIdeal.nD).tc.loc Cert.SiluIdeal.main_arg3)), ?_, ?_⟩
  · exact (θ_run Cert.KernelIdeal.defs _ _).mono
      (fun _ h c => ⟨(h.1 c).1.trans (Cert.AllToAll.out_block ρ hag _ (Cert.AllToAll.siluRef_apply _ _ _ _) c), (h.1 c).2⟩)
      (Cert.AllToAll.run_named (F := Ideal) m ρ)
  · exact (θ_run Cert.SiluIdeal.defs _ _).mono (fun _ h => h 0) (Cert.SiluIdeal.Value.run (F := Ideal) m' ρ')

/-- Where the scaled products lie within the clip's bounds, every device ends with its block of the clipping reference's result. -/
theorem value_reference : Cert.algebraic_KernelIdeal_ReferenceIdeal_pre_in_range_KernelIdeal (hKernelIdeal := Cert.KernelIdeal.Gen.facts)
    (hReferenceIdeal := Cert.ReferenceIdeal.Gen.facts) (hPre_in_range_KernelIdeal := Cert.Pre_in_range_KernelIdeal.Gen.facts) := by
  intro m ρ m' ρ' hp hag
  refine ⟨Cert.AllToAll.clipRef (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3)), ?_, ?_⟩
  · exact (θ_run Cert.KernelIdeal.defs _ _).mono
      (fun _ h c => ⟨(h.1 c).1.trans (Cert.AllToAll.out_block ρ hag _
        (fun i j => Cert.AllToAll.clipRef_apply _ _ _ _ i j (Cert.AllToAll.in_range_bounds hag hp i j)) c), (h.1 c).2⟩)
      (Cert.AllToAll.run_named (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, Cert.SiluIdeal.Gen.facts,
    Cert.Pre_in_range_KernelIdeal.Gen.facts, Cert.Pre_in_range_ReferenceIdeal.Gen.facts,
    frame_kernel, frame_ideal, fun m ρ _ => frame_ideal m ρ trivial, frame_reference, fun m ρ _ => frame_reference m ρ trivial, frame_silu,
    trivial, value_silu, value_reference⟩

end Cert.Proof

end
